-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v149)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v149) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v195) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x3x800x800 : Shape := ⟨4, ![1, 3, 800, 800]⟩
abbrev S1x256x50x50 : Shape := ⟨4, ![1, 256, 50, 50]⟩
abbrev S256x256x3x3 : Shape := ⟨4, ![256, 256, 3, 3]⟩
abbrev S256 : Shape := ⟨1, ![256]⟩
abbrev S9x256x1x1 : Shape := ⟨4, ![9, 256, 1, 1]⟩
abbrev S9 : Shape := ⟨1, ![9]⟩
abbrev S36x256x1x1 : Shape := ⟨4, ![36, 256, 1, 1]⟩
abbrev S36 : Shape := ⟨1, ![36]⟩
abbrev S8x16 : Shape := ⟨2, ![8, 16]⟩
abbrev S1x50x50x256 : Shape := ⟨4, ![1, 50, 50, 256]⟩
abbrev S50x50x256 : Shape := ⟨3, ![50, 50, 256]⟩
abbrev S_ : Shape := ⟨0, ![]⟩
abbrev S52x52x256 : Shape := ⟨3, ![52, 52, 256]⟩
abbrev S2500x256 : Shape := ⟨2, ![2500, 256]⟩
abbrev S2500x2304 : Shape := ⟨2, ![2500, 2304]⟩
abbrev S2504x2304 : Shape := ⟨2, ![2504, 2304]⟩
abbrev S256x256x1x1 : Shape := ⟨4, ![256, 256, 1, 1]⟩
abbrev S256x256 : Shape := ⟨2, ![256, 256]⟩
abbrev S2304x256 : Shape := ⟨2, ![2304, 256]⟩
abbrev S9x4x256 : Shape := ⟨3, ![9, 4, 256]⟩
abbrev S9x256 : Shape := ⟨2, ![9, 256]⟩
abbrev S256x9 : Shape := ⟨2, ![256, 9]⟩
abbrev S9x1x256 : Shape := ⟨3, ![9, 1, 256]⟩
abbrev S256x45 : Shape := ⟨2, ![256, 45]⟩
abbrev S256x48 : Shape := ⟨2, ![256, 48]⟩
abbrev S9x4 : Shape := ⟨2, ![9, 4]⟩
abbrev S9x1 : Shape := ⟨2, ![9, 1]⟩
abbrev S45 : Shape := ⟨1, ![45]⟩
abbrev S48 : Shape := ⟨1, ![48]⟩
abbrev S1x48 : Shape := ⟨2, ![1, 48]⟩
abbrev S1x256 : Shape := ⟨2, ![1, 256]⟩
abbrev S2504 : Shape := ⟨1, ![2504]⟩
abbrev S2504x1 : Shape := ⟨2, ![2504, 1]⟩
abbrev S2504x9 : Shape := ⟨2, ![2504, 9]⟩
abbrev S2504x256 : Shape := ⟨2, ![2504, 256]⟩
abbrev S2504x48 : Shape := ⟨2, ![2504, 48]⟩
abbrev S1x9 : Shape := ⟨2, ![1, 9]⟩
abbrev S2500x9 : Shape := ⟨2, ![2500, 9]⟩
abbrev S22500 : Shape := ⟨1, ![22500]⟩
abbrev S22500x1 : Shape := ⟨2, ![22500, 1]⟩
abbrev S22500x4 : Shape := ⟨2, ![22500, 4]⟩
abbrev S6000 : Shape := ⟨1, ![6000]⟩
abbrev S6000x1 : Shape := ⟨2, ![6000, 1]⟩
abbrev S6000x4 : Shape := ⟨2, ![6000, 4]⟩
abbrev S6016 : Shape := ⟨1, ![6016]⟩
abbrev S47x128 : Shape := ⟨2, ![47, 128]⟩
abbrev S1x128 : Shape := ⟨2, ![1, 128]⟩
abbrev S1 : Shape := ⟨1, ![1]⟩
abbrev S1x1 : Shape := ⟨2, ![1, 1]⟩
abbrev S2000 : Shape := ⟨1, ![2000]⟩
abbrev S2000x1 : Shape := ⟨2, ![2000, 1]⟩
abbrev S2000x4 : Shape := ⟨2, ![2000, 4]⟩
abbrev S2000x5 : Shape := ⟨2, ![2000, 5]⟩

abbrev nBuf : Space → Nat
  | .hbm => 231
  | .vmem => 20
  | .smem => 0
  | _ => 0

abbrev hbmTy0_0 (i : Nat) : BufTy := match i % 128 with
  | 0 => ⟨S1x3x800x800, .f32⟩
  | 1 => ⟨S1x256x50x50, .f32⟩
  | 2 => ⟨S256x256x3x3, .f32⟩
  | 3 => ⟨S256, .f32⟩
  | 4 => ⟨S9x256x1x1, .f32⟩
  | 5 => ⟨S9, .f32⟩
  | 6 => ⟨S36x256x1x1, .f32⟩
  | 7 => ⟨S36, .f32⟩
  | 8 => ⟨S8x16, .f32⟩
  | 9 => ⟨S1x50x50x256, .f32⟩
  | 10 => ⟨S50x50x256, .f32⟩
  | 11 => ⟨S_, .i32⟩
  | 12 => ⟨S_, .f32⟩
  | 13 => ⟨S52x52x256, .f32⟩
  | 14 => ⟨S50x50x256, .f32⟩
  | 15 => ⟨S2500x256, .f32⟩
  | 16 => ⟨S50x50x256, .f32⟩
  | 17 => ⟨S2500x256, .f32⟩
  | 18 => ⟨S50x50x256, .f32⟩
  | 19 => ⟨S2500x256, .f32⟩
  | 20 => ⟨S50x50x256, .f32⟩
  | 21 => ⟨S2500x256, .f32⟩
  | 22 => ⟨S50x50x256, .f32⟩
  | 23 => ⟨S2500x256, .f32⟩
  | 24 => ⟨S50x50x256, .f32⟩
  | 25 => ⟨S2500x256, .f32⟩
  | 26 => ⟨S50x50x256, .f32⟩
  | 27 => ⟨S2500x256, .f32⟩
  | 28 => ⟨S50x50x256, .f32⟩
  | 29 => ⟨S2500x256, .f32⟩
  | 30 => ⟨S50x50x256, .f32⟩
  | 31 => ⟨S2500x256, .f32⟩
  | 32 => ⟨S2500x2304, .f32⟩
  | 33 => ⟨S_, .i32⟩
  | 34 => ⟨S_, .f32⟩
  | 35 => ⟨S2504x2304, .f32⟩
  | 36 => ⟨S256x256x1x1, .f32⟩
  | 37 => ⟨S256x256, .f32⟩
  | 38 => ⟨S256x256, .f32⟩
  | 39 => ⟨S256x256x1x1, .f32⟩
  | 40 => ⟨S256x256, .f32⟩
  | 41 => ⟨S256x256, .f32⟩
  | 42 => ⟨S256x256x1x1, .f32⟩
  | 43 => ⟨S256x256, .f32⟩
  | 44 => ⟨S256x256, .f32⟩
  | 45 => ⟨S256x256x1x1, .f32⟩
  | 46 => ⟨S256x256, .f32⟩
  | 47 => ⟨S256x256, .f32⟩
  | 48 => ⟨S256x256x1x1, .f32⟩
  | 49 => ⟨S256x256, .f32⟩
  | 50 => ⟨S256x256, .f32⟩
  | 51 => ⟨S256x256x1x1, .f32⟩
  | 52 => ⟨S256x256, .f32⟩
  | 53 => ⟨S256x256, .f32⟩
  | 54 => ⟨S256x256x1x1, .f32⟩
  | 55 => ⟨S256x256, .f32⟩
  | 56 => ⟨S256x256, .f32⟩
  | 57 => ⟨S256x256x1x1, .f32⟩
  | 58 => ⟨S256x256, .f32⟩
  | 59 => ⟨S256x256, .f32⟩
  | 60 => ⟨S256x256x1x1, .f32⟩
  | 61 => ⟨S256x256, .f32⟩
  | 62 => ⟨S256x256, .f32⟩
  | 63 => ⟨S2304x256, .f32⟩
  | 64 => ⟨S9x4x256, .f32⟩
  | 65 => ⟨S9x256, .f32⟩
  | 66 => ⟨S256x9, .f32⟩
  | 67 => ⟨S9x1x256, .f32⟩
  | 68 => ⟨S9x256, .f32⟩
  | 69 => ⟨S256x9, .f32⟩
  | 70 => ⟨S9x1x256, .f32⟩
  | 71 => ⟨S9x256, .f32⟩
  | 72 => ⟨S256x9, .f32⟩
  | 73 => ⟨S9x1x256, .f32⟩
  | 74 => ⟨S9x256, .f32⟩
  | 75 => ⟨S256x9, .f32⟩
  | 76 => ⟨S9x1x256, .f32⟩
  | 77 => ⟨S9x256, .f32⟩
  | 78 => ⟨S256x9, .f32⟩
  | 79 => ⟨S256x45, .f32⟩
  | 80 => ⟨S_, .i32⟩
  | 81 => ⟨S_, .f32⟩
  | 82 => ⟨S256x48, .f32⟩
  | 83 => ⟨S9x4, .f32⟩
  | 84 => ⟨S9x1, .f32⟩
  | 85 => ⟨S9, .f32⟩
  | 86 => ⟨S9x1, .f32⟩
  | 87 => ⟨S9, .f32⟩
  | 88 => ⟨S9x1, .f32⟩
  | 89 => ⟨S9, .f32⟩
  | 90 => ⟨S9x1, .f32⟩
  | 91 => ⟨S9, .f32⟩
  | 92 => ⟨S45, .f32⟩
  | 93 => ⟨S_, .i32⟩
  | 94 => ⟨S_, .f32⟩
  | 95 => ⟨S48, .f32⟩
  | 96 => ⟨S1x48, .f32⟩
  | 97 => ⟨S1x256, .f32⟩
  | 98 => ⟨S2504, .i32⟩
  | 99 => ⟨S_, .i32⟩
  | 100 => ⟨S_, .i32⟩
  | 101 => ⟨S2504, .i32⟩
  | 102 => ⟨S2504, .i32⟩
  | 103 => ⟨S2504, .i32⟩
  | 104 => ⟨S_, .i32⟩
  | 105 => ⟨S2504, .i32⟩
  | 106 => ⟨S2504, .i1⟩
  | 107 => ⟨S2504, .i32⟩
  | 108 => ⟨S2504, .i32⟩
  | 109 => ⟨S_, .i32⟩
  | 110 => ⟨S2504, .i32⟩
  | 111 => ⟨S2504, .i1⟩
  | 112 => ⟨S2504, .i1⟩
  | 113 => ⟨S_, .i32⟩
  | 114 => ⟨S2504, .i32⟩
  | 115 => ⟨S2504, .i32⟩
  | 116 => ⟨S2504, .i32⟩
  | 117 => ⟨S2504, .f32⟩
  | 118 => ⟨S2504, .i32⟩
  | 119 => ⟨S_, .i32⟩
  | 120 => ⟨S_, .i32⟩
  | 121 => ⟨S_, .i32⟩
  | 122 => ⟨S_, .i1⟩
  | 123 => ⟨S_, .i32⟩
  | 124 => ⟨S_, .i32⟩
  | 125 => ⟨S2504, .i32⟩
  | 126 => ⟨S2504, .i32⟩
  | 127 => ⟨S_, .i32⟩
  | _ => ⟨S1x3x800x800, .f32⟩

abbrev hbmTy0_1 (i : Nat) : BufTy := match i % 128 with
  | 0 => ⟨S2504, .i32⟩
  | 1 => ⟨S2504, .i1⟩
  | 2 => ⟨S_, .i32⟩
  | 3 => ⟨S2504, .i32⟩
  | 4 => ⟨S2504, .i1⟩
  | 5 => ⟨S_, .i32⟩
  | 6 => ⟨S_, .i1⟩
  | 7 => ⟨S2504, .i1⟩
  | 8 => ⟨S2504, .i1⟩
  | 9 => ⟨S2504, .i1⟩
  | 10 => ⟨S2504, .i32⟩
  | 11 => ⟨S2504, .i32⟩
  | 12 => ⟨S2504, .i32⟩
  | 13 => ⟨S2504, .f32⟩
  | 14 => ⟨S_, .f32⟩
  | 15 => ⟨S2504, .f32⟩
  | 16 => ⟨S2504, .f32⟩
  | 17 => ⟨S_, .f32⟩
  | 18 => ⟨S2504, .f32⟩
  | 19 => ⟨S2504, .f32⟩
  | 20 => ⟨S2504x1, .f32⟩
  | 21 => ⟨S_, .f32⟩
  | 22 => ⟨S2504, .f32⟩
  | 23 => ⟨S2504, .f32⟩
  | 24 => ⟨S_, .f32⟩
  | 25 => ⟨S2504, .f32⟩
  | 26 => ⟨S2504, .f32⟩
  | 27 => ⟨S2504x1, .f32⟩
  | 28 => ⟨S2504x9, .f32⟩
  | 29 => ⟨S2504x9, .f32⟩
  | 30 => ⟨S2504x9, .f32⟩
  | 31 => ⟨S2504x9, .f32⟩
  | 32 => ⟨S2504x9, .f32⟩
  | 33 => ⟨S2500x9, .f32⟩
  | 34 => ⟨S22500, .f32⟩
  | 35 => ⟨S2500x9, .f32⟩
  | 36 => ⟨S22500, .f32⟩
  | 37 => ⟨S2500x9, .f32⟩
  | 38 => ⟨S22500, .f32⟩
  | 39 => ⟨S2500x9, .f32⟩
  | 40 => ⟨S22500, .f32⟩
  | 41 => ⟨S2500x9, .f32⟩
  | 42 => ⟨S22500, .f32⟩
  | 43 => ⟨S22500x1, .f32⟩
  | 44 => ⟨S22500x1, .f32⟩
  | 45 => ⟨S22500x1, .f32⟩
  | 46 => ⟨S22500x1, .f32⟩
  | 47 => ⟨S22500x4, .f32⟩
  | 48 => ⟨S6000, .f32⟩
  | 49 => ⟨S6000, .i32⟩
  | 50 => ⟨S_, .i32⟩
  | 51 => ⟨S6000, .i32⟩
  | 52 => ⟨S6000, .i1⟩
  | 53 => ⟨S_, .i32⟩
  | 54 => ⟨S6000, .i32⟩
  | 55 => ⟨S6000, .i32⟩
  | 56 => ⟨S6000, .i32⟩
  | 57 => ⟨S6000x1, .i32⟩
  | 58 => ⟨S6000x4, .f32⟩
  | 59 => ⟨S6000x1, .f32⟩
  | 60 => ⟨S6000, .f32⟩
  | 61 => ⟨S_, .f32⟩
  | 62 => ⟨S_, .f32⟩
  | 63 => ⟨S6016, .f32⟩
  | 64 => ⟨S47x128, .f32⟩
  | 65 => ⟨S6000x1, .f32⟩
  | 66 => ⟨S6000, .f32⟩
  | 67 => ⟨S_, .f32⟩
  | 68 => ⟨S_, .f32⟩
  | 69 => ⟨S6016, .f32⟩
  | 70 => ⟨S47x128, .f32⟩
  | 71 => ⟨S6000x1, .f32⟩
  | 72 => ⟨S6000, .f32⟩
  | 73 => ⟨S_, .f32⟩
  | 74 => ⟨S_, .f32⟩
  | 75 => ⟨S6016, .f32⟩
  | 76 => ⟨S47x128, .f32⟩
  | 77 => ⟨S6000x1, .f32⟩
  | 78 => ⟨S6000, .f32⟩
  | 79 => ⟨S_, .f32⟩
  | 80 => ⟨S_, .f32⟩
  | 81 => ⟨S6016, .f32⟩
  | 82 => ⟨S47x128, .f32⟩
  | 83 => ⟨S_, .f32⟩
  | 84 => ⟨S_, .f32⟩
  | 85 => ⟨S6016, .f32⟩
  | 86 => ⟨S47x128, .f32⟩
  | 87 => ⟨S47x128, .f32⟩
  | 88 => ⟨S6016, .f32⟩
  | 89 => ⟨S6000, .f32⟩
  | 90 => ⟨S2000, .f32⟩
  | 91 => ⟨S2000, .i32⟩
  | 92 => ⟨S_, .i32⟩
  | 93 => ⟨S2000, .i32⟩
  | 94 => ⟨S2000, .i1⟩
  | 95 => ⟨S_, .i32⟩
  | 96 => ⟨S2000, .i32⟩
  | 97 => ⟨S2000, .i32⟩
  | 98 => ⟨S2000, .i32⟩
  | 99 => ⟨S2000x1, .i32⟩
  | 100 => ⟨S2000x4, .f32⟩
  | 101 => ⟨S2000x1, .f32⟩
  | 102 => ⟨S2000x5, .f32⟩
  | _ => ⟨S1x3x800x800, .f32⟩

abbrev hbmTy (i : Nat) : BufTy := match i / 128 with
  | 0 => hbmTy0_0 i
  | 1 => hbmTy0_1 i
  | _ => ⟨S1x3x800x800, .f32⟩

abbrev bufTy : (tb : Table) → Fin (tcTables nBuf tb) → BufTy
  | .hbm, ⟨i, _⟩ => hbmTy i
  | .local _ .vmem, ⟨0, _⟩ => ⟨S2504x2304, .f32⟩
  | .local _ .vmem, ⟨1, _⟩ => ⟨S2304x256, .f32⟩
  | .local _ .vmem, ⟨2, _⟩ => ⟨S1x256, .f32⟩
  | .local _ .vmem, ⟨3, _⟩ => ⟨S256x48, .f32⟩
  | .local _ .vmem, ⟨4, _⟩ => ⟨S1x48, .f32⟩
  | .local _ .vmem, ⟨5, _⟩ => ⟨S2504x1, .f32⟩
  | .local _ .vmem, ⟨6, _⟩ => ⟨S2504x1, .f32⟩
  | .local _ .vmem, ⟨7, _⟩ => ⟨S8x16, .f32⟩
  | .local _ .vmem, ⟨8, _⟩ => ⟨S2504x9, .f32⟩
  | .local _ .vmem, ⟨9, _⟩ => ⟨S2504x9, .f32⟩
  | .local _ .vmem, ⟨10, _⟩ => ⟨S2504x9, .f32⟩
  | .local _ .vmem, ⟨11, _⟩ => ⟨S2504x9, .f32⟩
  | .local _ .vmem, ⟨12, _⟩ => ⟨S2504x9, .f32⟩
  | .local _ .vmem, ⟨13, _⟩ => ⟨S47x128, .f32⟩
  | .local _ .vmem, ⟨14, _⟩ => ⟨S47x128, .f32⟩
  | .local _ .vmem, ⟨15, _⟩ => ⟨S47x128, .f32⟩
  | .local _ .vmem, ⟨16, _⟩ => ⟨S47x128, .f32⟩
  | .local _ .vmem, ⟨17, _⟩ => ⟨S47x128, .f32⟩
  | .local _ .vmem, ⟨18, _⟩ => ⟨S47x128, .f32⟩
  | .local _ .vmem, ⟨19, _⟩ => ⟨S47x128, .f32⟩
  | _, _ => ⟨S1x3x800x800, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_call0_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_0 : Ref sig .tc := ⟨.hbm, 33, rfl⟩
abbrev main_call1_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_c_1 : Ref sig .tc := ⟨.hbm, 80, rfl⟩
abbrev main_call2_v0 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_c_2 : Ref sig .tc := ⟨.hbm, 93, rfl⟩
abbrev main_call3_v0 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_c_3 : Ref sig .tc := ⟨.hbm, 99, rfl⟩
abbrev main_call4_v0 : Ref sig .tc := ⟨.hbm, 100, rfl⟩
abbrev main_call4_v1 : Ref sig .tc := ⟨.hbm, 101, rfl⟩
abbrev main_call4_v2 : Ref sig .tc := ⟨.hbm, 102, rfl⟩
abbrev main_call4_v3 : Ref sig .tc := ⟨.hbm, 103, rfl⟩
abbrev main_call4_v4 : Ref sig .tc := ⟨.hbm, 104, rfl⟩
abbrev main_call4_v5 : Ref sig .tc := ⟨.hbm, 105, rfl⟩
abbrev main_call4_v6 : Ref sig .tc := ⟨.hbm, 106, rfl⟩
abbrev main_call4_v7 : Ref sig .tc := ⟨.hbm, 107, rfl⟩
abbrev main_call4_v8 : Ref sig .tc := ⟨.hbm, 108, rfl⟩
abbrev main_call4_c : Ref sig .tc := ⟨.hbm, 109, rfl⟩
abbrev main_call4_v9 : Ref sig .tc := ⟨.hbm, 110, rfl⟩
abbrev main_call4_v10 : Ref sig .tc := ⟨.hbm, 111, rfl⟩
abbrev main_call4_v11 : Ref sig .tc := ⟨.hbm, 112, rfl⟩
abbrev main_call4_c_0 : Ref sig .tc := ⟨.hbm, 113, rfl⟩
abbrev main_call4_v12 : Ref sig .tc := ⟨.hbm, 114, rfl⟩
abbrev main_call4_v13 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_c_4 : Ref sig .tc := ⟨.hbm, 119, rfl⟩
abbrev main_call5_v0 : Ref sig .tc := ⟨.hbm, 120, rfl⟩
abbrev main_call5_c : Ref sig .tc := ⟨.hbm, 121, rfl⟩
abbrev main_call5_v1 : Ref sig .tc := ⟨.hbm, 122, rfl⟩
abbrev main_call5_c_0 : Ref sig .tc := ⟨.hbm, 123, rfl⟩
abbrev main_call5_v2 : Ref sig .tc := ⟨.hbm, 124, rfl⟩
abbrev main_call5_v3 : Ref sig .tc := ⟨.hbm, 125, rfl⟩
abbrev main_call5_v4 : Ref sig .tc := ⟨.hbm, 126, rfl⟩
abbrev main_call5_c_1 : Ref sig .tc := ⟨.hbm, 127, rfl⟩
abbrev main_call5_v5 : Ref sig .tc := ⟨.hbm, 128, rfl⟩
abbrev main_call5_v6 : Ref sig .tc := ⟨.hbm, 129, rfl⟩
abbrev main_call5_c_2 : Ref sig .tc := ⟨.hbm, 130, rfl⟩
abbrev main_call5_v7 : Ref sig .tc := ⟨.hbm, 131, rfl⟩
abbrev main_call5_v8 : Ref sig .tc := ⟨.hbm, 132, rfl⟩
abbrev main_call5_c_3 : Ref sig .tc := ⟨.hbm, 133, rfl⟩
abbrev main_call5_v9 : Ref sig .tc := ⟨.hbm, 134, rfl⟩
abbrev main_call5_v10 : Ref sig .tc := ⟨.hbm, 135, rfl⟩
abbrev main_call5_v11 : Ref sig .tc := ⟨.hbm, 136, rfl⟩
abbrev main_call5_v12 : Ref sig .tc := ⟨.hbm, 137, rfl⟩
abbrev main_call5_v13 : Ref sig .tc := ⟨.hbm, 138, rfl⟩
abbrev main_call5_v14 : Ref sig .tc := ⟨.hbm, 139, rfl⟩
abbrev main_v85 : Ref sig .tc := ⟨.hbm, 140, rfl⟩
abbrev main_v86 : Ref sig .tc := ⟨.hbm, 141, rfl⟩
abbrev main_cst_5 : Ref sig .tc := ⟨.hbm, 142, rfl⟩
abbrev main_v87 : Ref sig .tc := ⟨.hbm, 143, rfl⟩
abbrev main_v88 : Ref sig .tc := ⟨.hbm, 144, rfl⟩
abbrev main_cst_6 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_cst_7 : Ref sig .tc := ⟨.hbm, 149, rfl⟩
abbrev main_v92 : Ref sig .tc := ⟨.hbm, 150, rfl⟩
abbrev main_v93 : Ref sig .tc := ⟨.hbm, 151, rfl⟩
abbrev main_cst_8 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97_0 : Ref sig .tc := ⟨.hbm, 156, rfl⟩
abbrev main_v97_1 : Ref sig .tc := ⟨.hbm, 157, rfl⟩
abbrev main_v97_2 : Ref sig .tc := ⟨.hbm, 158, rfl⟩
abbrev main_v97_3 : Ref sig .tc := ⟨.hbm, 159, rfl⟩
abbrev main_v97_4 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_values : Ref sig .tc := ⟨.hbm, 176, rfl⟩
abbrev main_indices : Ref sig .tc := ⟨.hbm, 177, rfl⟩
abbrev main_c_9 : Ref sig .tc := ⟨.hbm, 178, rfl⟩
abbrev main_v113 : Ref sig .tc := ⟨.hbm, 179, rfl⟩
abbrev main_v114 : Ref sig .tc := ⟨.hbm, 180, rfl⟩
abbrev main_c_10 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_cst_11 : Ref sig .tc := ⟨.hbm, 189, rfl⟩
abbrev main_call6_v0 : Ref sig .tc := ⟨.hbm, 190, rfl⟩
abbrev main_v122 : Ref sig .tc := ⟨.hbm, 191, rfl⟩
abbrev main_v123 : Ref sig .tc := ⟨.hbm, 192, rfl⟩
abbrev main_v124 : Ref sig .tc := ⟨.hbm, 193, rfl⟩
abbrev main_v125 : Ref sig .tc := ⟨.hbm, 194, rfl⟩
abbrev main_cst_12 : Ref sig .tc := ⟨.hbm, 195, rfl⟩
abbrev main_call7_v0 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_cst_13 : Ref sig .tc := ⟨.hbm, 201, rfl⟩
abbrev main_call8_v0 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_cst_14 : Ref sig .tc := ⟨.hbm, 207, rfl⟩
abbrev main_call9_v0 : Ref sig .tc := ⟨.hbm, 208, rfl⟩
abbrev main_v134 : Ref sig .tc := ⟨.hbm, 209, rfl⟩
abbrev main_v135 : Ref sig .tc := ⟨.hbm, 210, rfl⟩
abbrev main_cst_15 : Ref sig .tc := ⟨.hbm, 211, rfl⟩
abbrev main_call10_v0 : Ref sig .tc := ⟨.hbm, 212, rfl⟩
abbrev main_v136 : Ref sig .tc := ⟨.hbm, 213, rfl⟩
abbrev main_v137 : Ref sig .tc := ⟨.hbm, 214, rfl⟩
abbrev main_v138 : Ref sig .tc := ⟨.hbm, 215, rfl⟩
abbrev main_v139 : Ref sig .tc := ⟨.hbm, 216, rfl⟩
abbrev main_v140 : Ref sig .tc := ⟨.hbm, 217, rfl⟩
abbrev main_values_16 : Ref sig .tc := ⟨.hbm, 218, rfl⟩
abbrev main_indices_17 : Ref sig .tc := ⟨.hbm, 219, rfl⟩
abbrev main_c_18 : Ref sig .tc := ⟨.hbm, 220, rfl⟩
abbrev main_v141 : Ref sig .tc := ⟨.hbm, 221, rfl⟩
abbrev main_v142 : Ref sig .tc := ⟨.hbm, 222, rfl⟩
abbrev main_c_19 : Ref sig .tc := ⟨.hbm, 223, rfl⟩
abbrev main_v143 : Ref sig .tc := ⟨.hbm, 224, rfl⟩
abbrev main_v144 : Ref sig .tc := ⟨.hbm, 225, rfl⟩
abbrev main_v145 : Ref sig .tc := ⟨.hbm, 226, rfl⟩
abbrev main_v146 : Ref sig .tc := ⟨.hbm, 227, rfl⟩
abbrev main_v147 : Ref sig .tc := ⟨.hbm, 228, rfl⟩
abbrev main_v148 : Ref sig .tc := ⟨.hbm, 229, rfl⟩
abbrev main_v149 : Ref sig .tc := ⟨.hbm, 230, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc1_stg0_0 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_scratch0 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc1_sem0_0 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18

abbrev nD : Nat := 1
abbrev τ : Topo := Topo.v7x

variable {F : FTy → Type} [FloatOps F]

abbrev grid0 : Pipeline.Grid := .none

abbrev stage0_0 : Fin 1 → Memref sig .tc .vmem S2504x2304 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2304x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x48 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x48 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2504x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2504x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2504x9 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2504x9 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2504x9 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2504x9 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2504x9 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev grid1 : Pipeline.Grid := .none

@[reducible] def k1_t1_loop : Scf.Loop 32 :=
  let c0_i32 : BitVec 32 := 0#32
  let c6000_i32 : BitVec 32 := 6000#32
  let v25 : BitVec 32 := Scalar.addi c0_i32 c6000_i32
  let c1_i32 : BitVec 32 := 1#32
  ⟨c0_i32, v25, c1_i32⟩
def k1_off1 (k1_t1 : Fin k1_t1_loop.trips) : Fin 2 → Nat :=
  let c0_i32 : BitVec 32 := 0#32
  let c1_i32 : BitVec 32 := 1#32
  let arg7 : BitVec 32 := Scf.iv c0_i32 c1_i32 k1_t1
  let c0_i32_21 : BitVec 32 := 0#32
  let v35 : BitVec 1 := Scalar.cmpi .sgt arg7 c0_i32_21
  let v36 : BitVec 32 := Scalar.extui v35
  let c0_i32_22 : BitVec 32 := 0#32
  let v37 : BitVec 1 := Scalar.cmpi .slt arg7 c0_i32_22
  let v38 : BitVec 32 := Scalar.extui v37
  let v39 : BitVec 32 := Scalar.subi v36 v38
  let c128_i32_20 : BitVec 32 := 128#32
  let c0_i32_23 : BitVec 32 := 0#32
  let v40 : BitVec 1 := Scalar.cmpi .sgt c128_i32_20 c0_i32_23
  let v41 : BitVec 32 := Scalar.extui v40
  let c0_i32_24 : BitVec 32 := 0#32
  let v42 : BitVec 1 := Scalar.cmpi .slt c128_i32_20 c0_i32_24
  let v43 : BitVec 32 := Scalar.extui v42
  let v44 : BitVec 32 := Scalar.subi v41 v43
  let v45 : BitVec 1 := Scalar.cmpi .ne v39 v44
  let v46 : BitVec 32 := Scalar.remsi arg7 c128_i32_20
  let c0_i32_25 : BitVec 32 := 0#32
  let v47 : BitVec 1 := Scalar.cmpi .ne v46 c0_i32_25
  let v48 : BitVec 1 := Scalar.andi v45 v47
  let v34 : BitVec 32 := Scalar.divsi arg7 c128_i32_20
  let c1_i32_26 : BitVec 32 := 1#32
  let v49 : BitVec 32 := Scalar.subi v34 c1_i32_26
  let v50 : BitVec 32 := Scalar.select v48 v49 v34
  let v63 : Index := Scalar.indexCast v50
  let c0_33 : Index := 0#32
  ![v63.toNat, 0]
abbrev stage1_0 : Fin 1 → Memref sig .tc .vmem S47x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S47x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S47x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S47x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S47x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S47x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
-- ==== ReferenceIdeal.lean ====
abbrev S1x3x800x800 : Shape := ⟨4, ![1, 3, 800, 800]⟩
abbrev S1x256x50x50 : Shape := ⟨4, ![1, 256, 50, 50]⟩
abbrev S256x256x3x3 : Shape := ⟨4, ![256, 256, 3, 3]⟩
abbrev S256 : Shape := ⟨1, ![256]⟩
abbrev S9x256x1x1 : Shape := ⟨4, ![9, 256, 1, 1]⟩
abbrev S9 : Shape := ⟨1, ![9]⟩
abbrev S36x256x1x1 : Shape := ⟨4, ![36, 256, 1, 1]⟩
abbrev S36 : Shape := ⟨1, ![36]⟩
abbrev S9x4 : Shape := ⟨2, ![9, 4]⟩
abbrev S256x50x50 : Shape := ⟨3, ![256, 50, 50]⟩
abbrev S_ : Shape := ⟨0, ![]⟩
abbrev S256x52x52 : Shape := ⟨3, ![256, 52, 52]⟩
abbrev S256x256x1x1 : Shape := ⟨4, ![256, 256, 1, 1]⟩
abbrev S256x256 : Shape := ⟨2, ![256, 256]⟩
abbrev S256x1x1 : Shape := ⟨3, ![256, 1, 1]⟩
abbrev S9x256 : Shape := ⟨2, ![9, 256]⟩
abbrev S9x50x50 : Shape := ⟨3, ![9, 50, 50]⟩
abbrev S9x1x1 : Shape := ⟨3, ![9, 1, 1]⟩
abbrev S36x256 : Shape := ⟨2, ![36, 256]⟩
abbrev S36x50x50 : Shape := ⟨3, ![36, 50, 50]⟩
abbrev S36x1x1 : Shape := ⟨3, ![36, 1, 1]⟩
abbrev S50x50x9 : Shape := ⟨3, ![50, 50, 9]⟩
abbrev S22500 : Shape := ⟨1, ![22500]⟩
abbrev S50x50x36 : Shape := ⟨3, ![50, 50, 36]⟩
abbrev S22500x4 : Shape := ⟨2, ![22500, 4]⟩
abbrev S50 : Shape := ⟨1, ![50]⟩
abbrev S50x50 : Shape := ⟨2, ![50, 50]⟩
abbrev S2500 : Shape := ⟨1, ![2500]⟩
abbrev S2500x1 : Shape := ⟨2, ![2500, 1]⟩
abbrev S2500x4 : Shape := ⟨2, ![2500, 4]⟩
abbrev S2500x1x4 : Shape := ⟨3, ![2500, 1, 4]⟩
abbrev S1x9x4 : Shape := ⟨3, ![1, 9, 4]⟩
abbrev S2500x9x4 : Shape := ⟨3, ![2500, 9, 4]⟩
abbrev S22500x1 : Shape := ⟨2, ![22500, 1]⟩
abbrev S6000 : Shape := ⟨1, ![6000]⟩
abbrev S6000x1 : Shape := ⟨2, ![6000, 1]⟩
abbrev S6000x4 : Shape := ⟨2, ![6000, 4]⟩
abbrev S1 : Shape := ⟨1, ![1]⟩
abbrev S2000 : Shape := ⟨1, ![2000]⟩
abbrev S2000x1 : Shape := ⟨2, ![2000, 1]⟩
abbrev S2000x4 : Shape := ⟨2, ![2000, 4]⟩
abbrev S2000x5 : Shape := ⟨2, ![2000, 5]⟩

abbrev nBuf : Space → Nat
  | .hbm => 368
  | .vmem => 0
  | .smem => 0
  | _ => 0

abbrev hbmTy0_0 (i : Nat) : BufTy := match i % 128 with
  | 0 => ⟨S1x3x800x800, .f32⟩
  | 1 => ⟨S1x256x50x50, .f32⟩
  | 2 => ⟨S256x256x3x3, .f32⟩
  | 3 => ⟨S256, .f32⟩
  | 4 => ⟨S9x256x1x1, .f32⟩
  | 5 => ⟨S9, .f32⟩
  | 6 => ⟨S36x256x1x1, .f32⟩
  | 7 => ⟨S36, .f32⟩
  | 8 => ⟨S9x4, .f32⟩
  | 9 => ⟨S256x50x50, .f32⟩
  | 10 => ⟨S_, .i32⟩
  | 11 => ⟨S_, .f32⟩
  | 12 => ⟨S256x52x52, .f32⟩
  | 13 => ⟨S256x256x1x1, .f32⟩
  | 14 => ⟨S256x256, .f32⟩
  | 15 => ⟨S256x50x50, .f32⟩
  | 16 => ⟨S256x50x50, .f32⟩
  | 17 => ⟨S256x256x1x1, .f32⟩
  | 18 => ⟨S256x256, .f32⟩
  | 19 => ⟨S256x50x50, .f32⟩
  | 20 => ⟨S256x50x50, .f32⟩
  | 21 => ⟨S256x50x50, .f32⟩
  | 22 => ⟨S256x256x1x1, .f32⟩
  | 23 => ⟨S256x256, .f32⟩
  | 24 => ⟨S256x50x50, .f32⟩
  | 25 => ⟨S256x50x50, .f32⟩
  | 26 => ⟨S256x50x50, .f32⟩
  | 27 => ⟨S256x256x1x1, .f32⟩
  | 28 => ⟨S256x256, .f32⟩
  | 29 => ⟨S256x50x50, .f32⟩
  | 30 => ⟨S256x50x50, .f32⟩
  | 31 => ⟨S256x50x50, .f32⟩
  | 32 => ⟨S256x256x1x1, .f32⟩
  | 33 => ⟨S256x256, .f32⟩
  | 34 => ⟨S256x50x50, .f32⟩
  | 35 => ⟨S256x50x50, .f32⟩
  | 36 => ⟨S256x50x50, .f32⟩
  | 37 => ⟨S256x256x1x1, .f32⟩
  | 38 => ⟨S256x256, .f32⟩
  | 39 => ⟨S256x50x50, .f32⟩
  | 40 => ⟨S256x50x50, .f32⟩
  | 41 => ⟨S256x50x50, .f32⟩
  | 42 => ⟨S256x256x1x1, .f32⟩
  | 43 => ⟨S256x256, .f32⟩
  | 44 => ⟨S256x50x50, .f32⟩
  | 45 => ⟨S256x50x50, .f32⟩
  | 46 => ⟨S256x50x50, .f32⟩
  | 47 => ⟨S256x256x1x1, .f32⟩
  | 48 => ⟨S256x256, .f32⟩
  | 49 => ⟨S256x50x50, .f32⟩
  | 50 => ⟨S256x50x50, .f32⟩
  | 51 => ⟨S256x50x50, .f32⟩
  | 52 => ⟨S256x256x1x1, .f32⟩
  | 53 => ⟨S256x256, .f32⟩
  | 54 => ⟨S256x50x50, .f32⟩
  | 55 => ⟨S256x50x50, .f32⟩
  | 56 => ⟨S256x50x50, .f32⟩
  | 57 => ⟨S256x1x1, .f32⟩
  | 58 => ⟨S256x50x50, .f32⟩
  | 59 => ⟨S256x50x50, .f32⟩
  | 60 => ⟨S_, .f32⟩
  | 61 => ⟨S256x50x50, .f32⟩
  | 62 => ⟨S256x50x50, .f32⟩
  | 63 => ⟨S_, .i32⟩
  | 64 => ⟨S_, .f32⟩
  | 65 => ⟨S256x50x50, .f32⟩
  | 66 => ⟨S9x256, .f32⟩
  | 67 => ⟨S9x50x50, .f32⟩
  | 68 => ⟨S9x1x1, .f32⟩
  | 69 => ⟨S9x50x50, .f32⟩
  | 70 => ⟨S9x50x50, .f32⟩
  | 71 => ⟨S_, .i32⟩
  | 72 => ⟨S_, .f32⟩
  | 73 => ⟨S256x50x50, .f32⟩
  | 74 => ⟨S36x256, .f32⟩
  | 75 => ⟨S36x50x50, .f32⟩
  | 76 => ⟨S36x1x1, .f32⟩
  | 77 => ⟨S36x50x50, .f32⟩
  | 78 => ⟨S36x50x50, .f32⟩
  | 79 => ⟨S50x50x9, .f32⟩
  | 80 => ⟨S22500, .f32⟩
  | 81 => ⟨S50x50x36, .f32⟩
  | 82 => ⟨S22500x4, .f32⟩
  | 83 => ⟨S50, .f32⟩
  | 84 => ⟨S_, .f32⟩
  | 85 => ⟨S50, .f32⟩
  | 86 => ⟨S50, .f32⟩
  | 87 => ⟨S_, .f32⟩
  | 88 => ⟨S50, .f32⟩
  | 89 => ⟨S50, .f32⟩
  | 90 => ⟨S50, .f32⟩
  | 91 => ⟨S_, .f32⟩
  | 92 => ⟨S50, .f32⟩
  | 93 => ⟨S50, .f32⟩
  | 94 => ⟨S_, .f32⟩
  | 95 => ⟨S50, .f32⟩
  | 96 => ⟨S50, .f32⟩
  | 97 => ⟨S50x50, .f32⟩
  | 98 => ⟨S50x50, .f32⟩
  | 99 => ⟨S2500, .f32⟩
  | 100 => ⟨S2500, .f32⟩
  | 101 => ⟨S2500, .f32⟩
  | 102 => ⟨S2500, .f32⟩
  | 103 => ⟨S2500x1, .f32⟩
  | 104 => ⟨S2500x1, .f32⟩
  | 105 => ⟨S2500x1, .f32⟩
  | 106 => ⟨S2500x1, .f32⟩
  | 107 => ⟨S2500x4, .f32⟩
  | 108 => ⟨S2500x1x4, .f32⟩
  | 109 => ⟨S1x9x4, .f32⟩
  | 110 => ⟨S2500x9x4, .f32⟩
  | 111 => ⟨S2500x9x4, .f32⟩
  | 112 => ⟨S2500x9x4, .f32⟩
  | 113 => ⟨S22500x4, .f32⟩
  | 114 => ⟨S22500x1, .f32⟩
  | 115 => ⟨S22500, .f32⟩
  | 116 => ⟨S22500x1, .f32⟩
  | 117 => ⟨S22500, .f32⟩
  | 118 => ⟨S22500, .f32⟩
  | 119 => ⟨S22500x1, .f32⟩
  | 120 => ⟨S22500, .f32⟩
  | 121 => ⟨S22500x1, .f32⟩
  | 122 => ⟨S22500, .f32⟩
  | 123 => ⟨S22500, .f32⟩
  | 124 => ⟨S22500x1, .f32⟩
  | 125 => ⟨S22500, .f32⟩
  | 126 => ⟨S_, .f32⟩
  | 127 => ⟨S22500, .f32⟩
  | _ => ⟨S1x3x800x800, .f32⟩

abbrev hbmTy0_1 (i : Nat) : BufTy := match i % 128 with
  | 0 => ⟨S22500, .f32⟩
  | 1 => ⟨S22500, .f32⟩
  | 2 => ⟨S22500x1, .f32⟩
  | 3 => ⟨S22500, .f32⟩
  | 4 => ⟨S_, .f32⟩
  | 5 => ⟨S22500, .f32⟩
  | 6 => ⟨S22500, .f32⟩
  | 7 => ⟨S22500, .f32⟩
  | 8 => ⟨S22500x1, .f32⟩
  | 9 => ⟨S22500, .f32⟩
  | 10 => ⟨S22500x1, .f32⟩
  | 11 => ⟨S22500, .f32⟩
  | 12 => ⟨S22500x1, .f32⟩
  | 13 => ⟨S22500, .f32⟩
  | 14 => ⟨S22500x1, .f32⟩
  | 15 => ⟨S22500, .f32⟩
  | 16 => ⟨S_, .f32⟩
  | 17 => ⟨S22500, .f32⟩
  | 18 => ⟨S22500, .f32⟩
  | 19 => ⟨S_, .f32⟩
  | 20 => ⟨S22500, .f32⟩
  | 21 => ⟨S22500, .f32⟩
  | 22 => ⟨S22500, .f32⟩
  | 23 => ⟨S22500, .f32⟩
  | 24 => ⟨S22500, .f32⟩
  | 25 => ⟨S22500, .f32⟩
  | 26 => ⟨S22500, .f32⟩
  | 27 => ⟨S22500, .f32⟩
  | 28 => ⟨S22500, .f32⟩
  | 29 => ⟨S22500, .f32⟩
  | 30 => ⟨S_, .f32⟩
  | 31 => ⟨S22500, .f32⟩
  | 32 => ⟨S22500, .f32⟩
  | 33 => ⟨S22500, .f32⟩
  | 34 => ⟨S_, .f32⟩
  | 35 => ⟨S_, .f32⟩
  | 36 => ⟨S_, .f32⟩
  | 37 => ⟨S22500, .f32⟩
  | 38 => ⟨S22500, .f32⟩
  | 39 => ⟨S_, .f32⟩
  | 40 => ⟨S22500, .f32⟩
  | 41 => ⟨S22500, .f32⟩
  | 42 => ⟨S_, .f32⟩
  | 43 => ⟨S22500, .f32⟩
  | 44 => ⟨S22500, .f32⟩
  | 45 => ⟨S22500, .f32⟩
  | 46 => ⟨S_, .f32⟩
  | 47 => ⟨S_, .f32⟩
  | 48 => ⟨S_, .f32⟩
  | 49 => ⟨S22500, .f32⟩
  | 50 => ⟨S22500, .f32⟩
  | 51 => ⟨S_, .f32⟩
  | 52 => ⟨S22500, .f32⟩
  | 53 => ⟨S22500, .f32⟩
  | 54 => ⟨S_, .f32⟩
  | 55 => ⟨S22500, .f32⟩
  | 56 => ⟨S22500, .f32⟩
  | 57 => ⟨S22500, .f32⟩
  | 58 => ⟨S_, .f32⟩
  | 59 => ⟨S_, .f32⟩
  | 60 => ⟨S_, .f32⟩
  | 61 => ⟨S22500, .f32⟩
  | 62 => ⟨S22500, .f32⟩
  | 63 => ⟨S_, .f32⟩
  | 64 => ⟨S22500, .f32⟩
  | 65 => ⟨S22500, .f32⟩
  | 66 => ⟨S_, .f32⟩
  | 67 => ⟨S22500, .f32⟩
  | 68 => ⟨S22500, .f32⟩
  | 69 => ⟨S22500, .f32⟩
  | 70 => ⟨S_, .f32⟩
  | 71 => ⟨S_, .f32⟩
  | 72 => ⟨S_, .f32⟩
  | 73 => ⟨S22500, .f32⟩
  | 74 => ⟨S22500, .f32⟩
  | 75 => ⟨S_, .f32⟩
  | 76 => ⟨S22500, .f32⟩
  | 77 => ⟨S22500, .f32⟩
  | 78 => ⟨S22500x1, .f32⟩
  | 79 => ⟨S22500x1, .f32⟩
  | 80 => ⟨S22500x1, .f32⟩
  | 81 => ⟨S22500x1, .f32⟩
  | 82 => ⟨S22500x4, .f32⟩
  | 83 => ⟨S22500, .f32⟩
  | 84 => ⟨S22500, .f32⟩
  | 85 => ⟨S_, .f32⟩
  | 86 => ⟨S22500, .f32⟩
  | 87 => ⟨S22500, .f32⟩
  | 88 => ⟨S_, .f32⟩
  | 89 => ⟨S22500, .f32⟩
  | 90 => ⟨S22500, .f32⟩
  | 91 => ⟨S6000, .f32⟩
  | 92 => ⟨S6000, .i32⟩
  | 93 => ⟨S_, .i32⟩
  | 94 => ⟨S6000, .i32⟩
  | 95 => ⟨S6000, .i1⟩
  | 96 => ⟨S_, .i32⟩
  | 97 => ⟨S6000, .i32⟩
  | 98 => ⟨S6000, .i32⟩
  | 99 => ⟨S6000, .i32⟩
  | 100 => ⟨S6000x1, .i32⟩
  | 101 => ⟨S6000x4, .f32⟩
  | 102 => ⟨S6000x1, .f32⟩
  | 103 => ⟨S6000, .f32⟩
  | 104 => ⟨S6000x1, .f32⟩
  | 105 => ⟨S6000, .f32⟩
  | 106 => ⟨S6000x1, .f32⟩
  | 107 => ⟨S6000, .f32⟩
  | 108 => ⟨S6000x1, .f32⟩
  | 109 => ⟨S6000, .f32⟩
  | 110 => ⟨S6000, .f32⟩
  | 111 => ⟨S_, .f32⟩
  | 112 => ⟨S6000, .f32⟩
  | 113 => ⟨S6000, .f32⟩
  | 114 => ⟨S6000, .f32⟩
  | 115 => ⟨S_, .f32⟩
  | 116 => ⟨S6000, .f32⟩
  | 117 => ⟨S6000, .f32⟩
  | 118 => ⟨S6000, .f32⟩
  | 119 => ⟨S6000, .i32⟩
  | 120 => ⟨S_, .i1⟩
  | 121 => ⟨S6000, .i1⟩
  | 122 => ⟨S_, .i32⟩
  | 123 => ⟨S_, .i32⟩
  | 124 => ⟨S6000, .f32⟩
  | 125 => ⟨S6000, .f32⟩
  | 126 => ⟨S6000, .f32⟩
  | 127 => ⟨S6000, .f32⟩
  | _ => ⟨S1x3x800x800, .f32⟩

abbrev hbmTy0_2 (i : Nat) : BufTy := match i % 128 with
  | 0 => ⟨S6000, .f32⟩
  | 1 => ⟨S6000, .i32⟩
  | 2 => ⟨S_, .i32⟩
  | 3 => ⟨S_, .i32⟩
  | 4 => ⟨S6000, .i1⟩
  | 5 => ⟨S_, .i32⟩
  | 6 => ⟨S_, .i1⟩
  | 7 => ⟨S_, .i32⟩
  | 8 => ⟨S_, .i32⟩
  | 9 => ⟨S_, .i32⟩
  | 10 => ⟨S_, .i1⟩
  | 11 => ⟨S_, .i32⟩
  | 12 => ⟨S_, .i32⟩
  | 13 => ⟨S_, .i32⟩
  | 14 => ⟨S_, .i32⟩
  | 15 => ⟨S1, .f32⟩
  | 16 => ⟨S_, .f32⟩
  | 17 => ⟨S6000, .f32⟩
  | 18 => ⟨S6000, .f32⟩
  | 19 => ⟨S_, .i32⟩
  | 20 => ⟨S_, .i1⟩
  | 21 => ⟨S_, .i32⟩
  | 22 => ⟨S_, .i32⟩
  | 23 => ⟨S_, .i32⟩
  | 24 => ⟨S_, .i32⟩
  | 25 => ⟨S1, .f32⟩
  | 26 => ⟨S_, .f32⟩
  | 27 => ⟨S6000, .f32⟩
  | 28 => ⟨S6000, .f32⟩
  | 29 => ⟨S_, .i32⟩
  | 30 => ⟨S_, .i1⟩
  | 31 => ⟨S_, .i32⟩
  | 32 => ⟨S_, .i32⟩
  | 33 => ⟨S_, .i32⟩
  | 34 => ⟨S_, .i32⟩
  | 35 => ⟨S1, .f32⟩
  | 36 => ⟨S_, .f32⟩
  | 37 => ⟨S6000, .f32⟩
  | 38 => ⟨S6000, .f32⟩
  | 39 => ⟨S_, .i32⟩
  | 40 => ⟨S_, .i1⟩
  | 41 => ⟨S_, .i32⟩
  | 42 => ⟨S_, .i32⟩
  | 43 => ⟨S_, .i32⟩
  | 44 => ⟨S_, .i32⟩
  | 45 => ⟨S1, .f32⟩
  | 46 => ⟨S_, .f32⟩
  | 47 => ⟨S6000, .f32⟩
  | 48 => ⟨S6000, .f32⟩
  | 49 => ⟨S6000, .f32⟩
  | 50 => ⟨S_, .f32⟩
  | 51 => ⟨S6000, .f32⟩
  | 52 => ⟨S6000, .f32⟩
  | 53 => ⟨S6000, .f32⟩
  | 54 => ⟨S_, .f32⟩
  | 55 => ⟨S6000, .f32⟩
  | 56 => ⟨S6000, .f32⟩
  | 57 => ⟨S6000, .f32⟩
  | 58 => ⟨S_, .i32⟩
  | 59 => ⟨S_, .i1⟩
  | 60 => ⟨S_, .i32⟩
  | 61 => ⟨S_, .i32⟩
  | 62 => ⟨S_, .i32⟩
  | 63 => ⟨S_, .i32⟩
  | 64 => ⟨S1, .f32⟩
  | 65 => ⟨S_, .f32⟩
  | 66 => ⟨S6000, .f32⟩
  | 67 => ⟨S6000, .f32⟩
  | 68 => ⟨S6000, .f32⟩
  | 69 => ⟨S_, .f32⟩
  | 70 => ⟨S6000, .f32⟩
  | 71 => ⟨S6000, .f32⟩
  | 72 => ⟨S6000, .f32⟩
  | 73 => ⟨S_, .f32⟩
  | 74 => ⟨S6000, .f32⟩
  | 75 => ⟨S6000, .i1⟩
  | 76 => ⟨S_, .i32⟩
  | 77 => ⟨S6000, .i32⟩
  | 78 => ⟨S6000, .i1⟩
  | 79 => ⟨S6000, .i1⟩
  | 80 => ⟨S_, .i32⟩
  | 81 => ⟨S_, .i1⟩
  | 82 => ⟨S_, .i32⟩
  | 83 => ⟨S_, .i32⟩
  | 84 => ⟨S_, .i32⟩
  | 85 => ⟨S_, .i32⟩
  | 86 => ⟨S1, .i1⟩
  | 87 => ⟨S_, .i1⟩
  | 88 => ⟨S_, .i1⟩
  | 89 => ⟨S6000, .i1⟩
  | 90 => ⟨S6000, .i1⟩
  | 91 => ⟨S6000, .i1⟩
  | 92 => ⟨S_, .i32⟩
  | 93 => ⟨S_, .i32⟩
  | 94 => ⟨S6000, .i1⟩
  | 95 => ⟨S_, .f32⟩
  | 96 => ⟨S_, .f32⟩
  | 97 => ⟨S6000, .f32⟩
  | 98 => ⟨S6000, .f32⟩
  | 99 => ⟨S2000, .f32⟩
  | 100 => ⟨S2000, .i32⟩
  | 101 => ⟨S_, .i32⟩
  | 102 => ⟨S2000, .i32⟩
  | 103 => ⟨S2000, .i1⟩
  | 104 => ⟨S_, .i32⟩
  | 105 => ⟨S2000, .i32⟩
  | 106 => ⟨S2000, .i32⟩
  | 107 => ⟨S2000, .i32⟩
  | 108 => ⟨S2000x1, .i32⟩
  | 109 => ⟨S2000x4, .f32⟩
  | 110 => ⟨S2000x1, .f32⟩
  | 111 => ⟨S2000x5, .f32⟩
  | _ => ⟨S1x3x800x800, .f32⟩

abbrev hbmTy (i : Nat) : BufTy := match i / 128 with
  | 0 => hbmTy0_0 i
  | 1 => hbmTy0_1 i
  | 2 => hbmTy0_2 i
  | _ => ⟨S1x3x800x800, .f32⟩

abbrev bufTy : (tb : Table) → Fin (tcTables nBuf tb) → BufTy
  | .hbm, ⟨i, _⟩ => hbmTy i
  | _, _ => ⟨S1x3x800x800, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_call1_cst : Ref sig .tc := ⟨.hbm, 60, rfl⟩
abbrev main_call1_v0 : Ref sig .tc := ⟨.hbm, 61, rfl⟩
abbrev main_v49 : Ref sig .tc := ⟨.hbm, 62, rfl⟩
abbrev main_c_0 : Ref sig .tc := ⟨.hbm, 63, rfl⟩
abbrev main_call2_v0 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_c_1 : Ref sig .tc := ⟨.hbm, 71, rfl⟩
abbrev main_call3_v0 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_2 : Ref sig .tc := ⟨.hbm, 84, rfl⟩
abbrev main_v67 : Ref sig .tc := ⟨.hbm, 85, rfl⟩
abbrev main_v68 : Ref sig .tc := ⟨.hbm, 86, rfl⟩
abbrev main_cst_3 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_4 : Ref sig .tc := ⟨.hbm, 91, rfl⟩
abbrev main_v72 : Ref sig .tc := ⟨.hbm, 92, rfl⟩
abbrev main_v73 : Ref sig .tc := ⟨.hbm, 93, rfl⟩
abbrev main_cst_5 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_cst_6 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_cst_7 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_cst_8 : Ref sig .tc := ⟨.hbm, 144, rfl⟩
abbrev main_v121 : Ref sig .tc := ⟨.hbm, 145, rfl⟩
abbrev main_v122 : Ref sig .tc := ⟨.hbm, 146, rfl⟩
abbrev main_cst_9 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_cst_10 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_cst_11 : Ref sig .tc := ⟨.hbm, 162, rfl⟩
abbrev main_cst_12 : Ref sig .tc := ⟨.hbm, 163, rfl⟩
abbrev main_call4_v0 : Ref sig .tc := ⟨.hbm, 164, rfl⟩
abbrev main_call4_v1 : Ref sig .tc := ⟨.hbm, 165, rfl⟩
abbrev main_call4_v2 : Ref sig .tc := ⟨.hbm, 166, rfl⟩
abbrev main_call4_v3 : Ref sig .tc := ⟨.hbm, 167, rfl⟩
abbrev main_call4_v4 : Ref sig .tc := ⟨.hbm, 168, rfl⟩
abbrev main_v136 : Ref sig .tc := ⟨.hbm, 169, rfl⟩
abbrev main_cst_13 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_cst_14 : Ref sig .tc := ⟨.hbm, 174, rfl⟩
abbrev main_cst_15 : Ref sig .tc := ⟨.hbm, 175, rfl⟩
abbrev main_call5_v0 : Ref sig .tc := ⟨.hbm, 176, rfl⟩
abbrev main_call5_v1 : Ref sig .tc := ⟨.hbm, 177, rfl⟩
abbrev main_call5_v2 : Ref sig .tc := ⟨.hbm, 178, rfl⟩
abbrev main_call5_v3 : Ref sig .tc := ⟨.hbm, 179, rfl⟩
abbrev main_call5_v4 : Ref sig .tc := ⟨.hbm, 180, rfl⟩
abbrev main_v140 : Ref sig .tc := ⟨.hbm, 181, rfl⟩
abbrev main_cst_16 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_cst_17 : Ref sig .tc := ⟨.hbm, 186, rfl⟩
abbrev main_cst_18 : Ref sig .tc := ⟨.hbm, 187, rfl⟩
abbrev main_call6_v0 : Ref sig .tc := ⟨.hbm, 188, rfl⟩
abbrev main_call6_v1 : Ref sig .tc := ⟨.hbm, 189, rfl⟩
abbrev main_call6_v2 : Ref sig .tc := ⟨.hbm, 190, rfl⟩
abbrev main_call6_v3 : Ref sig .tc := ⟨.hbm, 191, rfl⟩
abbrev main_call6_v4 : Ref sig .tc := ⟨.hbm, 192, rfl⟩
abbrev main_v144 : Ref sig .tc := ⟨.hbm, 193, rfl⟩
abbrev main_cst_19 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_cst_20 : Ref sig .tc := ⟨.hbm, 198, rfl⟩
abbrev main_cst_21 : Ref sig .tc := ⟨.hbm, 199, rfl⟩
abbrev main_call7_v0 : Ref sig .tc := ⟨.hbm, 200, rfl⟩
abbrev main_call7_v1 : Ref sig .tc := ⟨.hbm, 201, rfl⟩
abbrev main_call7_v2 : Ref sig .tc := ⟨.hbm, 202, rfl⟩
abbrev main_call7_v3 : Ref sig .tc := ⟨.hbm, 203, rfl⟩
abbrev main_call7_v4 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_cst_22 : Ref sig .tc := ⟨.hbm, 213, rfl⟩
abbrev main_v156 : Ref sig .tc := ⟨.hbm, 214, rfl⟩
abbrev main_v157 : Ref sig .tc := ⟨.hbm, 215, rfl⟩
abbrev main_cst_23 : Ref sig .tc := ⟨.hbm, 216, rfl⟩
abbrev main_v158 : Ref sig .tc := ⟨.hbm, 217, rfl⟩
abbrev main_v159 : Ref sig .tc := ⟨.hbm, 218, rfl⟩
abbrev main_values : Ref sig .tc := ⟨.hbm, 219, rfl⟩
abbrev main_indices : Ref sig .tc := ⟨.hbm, 220, rfl⟩
abbrev main_c_24 : Ref sig .tc := ⟨.hbm, 221, rfl⟩
abbrev main_v160 : Ref sig .tc := ⟨.hbm, 222, rfl⟩
abbrev main_v161 : Ref sig .tc := ⟨.hbm, 223, rfl⟩
abbrev main_c_25 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_cst_26 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_cst_27 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_c_28 : Ref sig .tc := ⟨.hbm, 248, rfl⟩
abbrev main_v183 : Ref sig .tc := ⟨.hbm, 249, rfl⟩
abbrev main_c_29 : Ref sig .tc := ⟨.hbm, 250, rfl⟩
abbrev main_c_30 : Ref sig .tc := ⟨.hbm, 251, rfl⟩
abbrev main_v184_0 : Ref sig .tc := ⟨.hbm, 252, rfl⟩
abbrev main_v184_1 : Ref sig .tc := ⟨.hbm, 253, rfl⟩
abbrev main_v184_2 : Ref sig .tc := ⟨.hbm, 254, rfl⟩
abbrev main_v184_3 : Ref sig .tc := ⟨.hbm, 255, rfl⟩
abbrev main_v184_4 : Ref sig .tc := ⟨.hbm, 256, rfl⟩
abbrev main_v184_5 : Ref sig .tc := ⟨.hbm, 257, rfl⟩
abbrev main_v184_6 : Ref sig .tc := ⟨.hbm, 258, rfl⟩
abbrev main_v184_7 : Ref sig .tc := ⟨.hbm, 259, rfl⟩
abbrev main_v184_8 : Ref sig .tc := ⟨.hbm, 260, rfl⟩
abbrev main_while0c_c_44 : Ref sig .tc := ⟨.hbm, 261, rfl⟩
abbrev main_while0c_v196 : Ref sig .tc := ⟨.hbm, 262, rfl⟩
abbrev main_while0b_c_44 : Ref sig .tc := ⟨.hbm, 263, rfl⟩
abbrev main_while0b_v196 : Ref sig .tc := ⟨.hbm, 264, rfl⟩
abbrev main_while0b_c_45 : Ref sig .tc := ⟨.hbm, 265, rfl⟩
abbrev main_while0b_v197 : Ref sig .tc := ⟨.hbm, 266, rfl⟩
abbrev main_while0b_v198 : Ref sig .tc := ⟨.hbm, 267, rfl⟩
abbrev main_while0b_c_46 : Ref sig .tc := ⟨.hbm, 268, rfl⟩
abbrev main_while0b_v199 : Ref sig .tc := ⟨.hbm, 269, rfl⟩
abbrev main_while0b_v200 : Ref sig .tc := ⟨.hbm, 270, rfl⟩
abbrev main_while0b_v201 : Ref sig .tc := ⟨.hbm, 271, rfl⟩
abbrev main_while0b_v202 : Ref sig .tc := ⟨.hbm, 272, rfl⟩
abbrev main_while0b_v203 : Ref sig .tc := ⟨.hbm, 273, rfl⟩
abbrev main_while0b_v204 : Ref sig .tc := ⟨.hbm, 274, rfl⟩
abbrev main_while0b_c_47 : Ref sig .tc := ⟨.hbm, 275, rfl⟩
abbrev main_while0b_v205 : Ref sig .tc := ⟨.hbm, 276, rfl⟩
abbrev main_while0b_v206 : Ref sig .tc := ⟨.hbm, 277, rfl⟩
abbrev main_while0b_c_48 : Ref sig .tc := ⟨.hbm, 278, rfl⟩
abbrev main_while0b_v207 : Ref sig .tc := ⟨.hbm, 279, rfl⟩
abbrev main_while0b_v208 : Ref sig .tc := ⟨.hbm, 280, rfl⟩
abbrev main_while0b_v209 : Ref sig .tc := ⟨.hbm, 281, rfl⟩
abbrev main_while0b_v210 : Ref sig .tc := ⟨.hbm, 282, rfl⟩
abbrev main_while0b_v211 : Ref sig .tc := ⟨.hbm, 283, rfl⟩
abbrev main_while0b_v212 : Ref sig .tc := ⟨.hbm, 284, rfl⟩
abbrev main_while0b_c_49 : Ref sig .tc := ⟨.hbm, 285, rfl⟩
abbrev main_while0b_v213 : Ref sig .tc := ⟨.hbm, 286, rfl⟩
abbrev main_while0b_v214 : Ref sig .tc := ⟨.hbm, 287, rfl⟩
abbrev main_while0b_c_50 : Ref sig .tc := ⟨.hbm, 288, rfl⟩
abbrev main_while0b_v215 : Ref sig .tc := ⟨.hbm, 289, rfl⟩
abbrev main_while0b_v216 : Ref sig .tc := ⟨.hbm, 290, rfl⟩
abbrev main_while0b_v217 : Ref sig .tc := ⟨.hbm, 291, rfl⟩
abbrev main_while0b_v218 : Ref sig .tc := ⟨.hbm, 292, rfl⟩
abbrev main_while0b_v219 : Ref sig .tc := ⟨.hbm, 293, rfl⟩
abbrev main_while0b_v220 : Ref sig .tc := ⟨.hbm, 294, rfl⟩
abbrev main_while0b_c_51 : Ref sig .tc := ⟨.hbm, 295, rfl⟩
abbrev main_while0b_v221 : Ref sig .tc := ⟨.hbm, 296, rfl⟩
abbrev main_while0b_v222 : Ref sig .tc := ⟨.hbm, 297, rfl⟩
abbrev main_while0b_c_52 : Ref sig .tc := ⟨.hbm, 298, rfl⟩
abbrev main_while0b_v223 : Ref sig .tc := ⟨.hbm, 299, rfl⟩
abbrev main_while0b_v224 : Ref sig .tc := ⟨.hbm, 300, rfl⟩
abbrev main_while0b_v225 : Ref sig .tc := ⟨.hbm, 301, rfl⟩
abbrev main_while0b_v226 : Ref sig .tc := ⟨.hbm, 302, rfl⟩
abbrev main_while0b_v227 : Ref sig .tc := ⟨.hbm, 303, rfl⟩
abbrev main_while0b_v228 : Ref sig .tc := ⟨.hbm, 304, rfl⟩
abbrev main_while0b_v229 : Ref sig .tc := ⟨.hbm, 305, rfl⟩
abbrev main_while0b_cst_53 : Ref sig .tc := ⟨.hbm, 306, rfl⟩
abbrev main_while0b_v230 : Ref sig .tc := ⟨.hbm, 307, rfl⟩
abbrev main_while0b_v231 : Ref sig .tc := ⟨.hbm, 308, rfl⟩
abbrev main_while0b_v232 : Ref sig .tc := ⟨.hbm, 309, rfl⟩
abbrev main_while0b_cst_54 : Ref sig .tc := ⟨.hbm, 310, rfl⟩
abbrev main_while0b_v233 : Ref sig .tc := ⟨.hbm, 311, rfl⟩
abbrev main_while0b_v234 : Ref sig .tc := ⟨.hbm, 312, rfl⟩
abbrev main_while0b_v235 : Ref sig .tc := ⟨.hbm, 313, rfl⟩
abbrev main_while0b_c_55 : Ref sig .tc := ⟨.hbm, 314, rfl⟩
abbrev main_while0b_v236 : Ref sig .tc := ⟨.hbm, 315, rfl⟩
abbrev main_while0b_v237 : Ref sig .tc := ⟨.hbm, 316, rfl⟩
abbrev main_while0b_c_56 : Ref sig .tc := ⟨.hbm, 317, rfl⟩
abbrev main_while0b_v238 : Ref sig .tc := ⟨.hbm, 318, rfl⟩
abbrev main_while0b_v239 : Ref sig .tc := ⟨.hbm, 319, rfl⟩
abbrev main_while0b_v240 : Ref sig .tc := ⟨.hbm, 320, rfl⟩
abbrev main_while0b_v241 : Ref sig .tc := ⟨.hbm, 321, rfl⟩
abbrev main_while0b_v242 : Ref sig .tc := ⟨.hbm, 322, rfl⟩
abbrev main_while0b_v243 : Ref sig .tc := ⟨.hbm, 323, rfl⟩
abbrev main_while0b_v244 : Ref sig .tc := ⟨.hbm, 324, rfl⟩
abbrev main_while0b_cst_57 : Ref sig .tc := ⟨.hbm, 325, rfl⟩
abbrev main_while0b_v245 : Ref sig .tc := ⟨.hbm, 326, rfl⟩
abbrev main_while0b_v246 : Ref sig .tc := ⟨.hbm, 327, rfl⟩
abbrev main_while0b_v247 : Ref sig .tc := ⟨.hbm, 328, rfl⟩
abbrev main_while0b_cst_58 : Ref sig .tc := ⟨.hbm, 329, rfl⟩
abbrev main_while0b_v248 : Ref sig .tc := ⟨.hbm, 330, rfl⟩
abbrev main_while0b_v249 : Ref sig .tc := ⟨.hbm, 331, rfl⟩
abbrev main_while0b_v250 : Ref sig .tc := ⟨.hbm, 332, rfl⟩
abbrev main_while0b_v251 : Ref sig .tc := ⟨.hbm, 333, rfl⟩
abbrev main_while0b_v252 : Ref sig .tc := ⟨.hbm, 334, rfl⟩
abbrev main_while0b_v253 : Ref sig .tc := ⟨.hbm, 335, rfl⟩
abbrev main_while0b_c_59 : Ref sig .tc := ⟨.hbm, 336, rfl⟩
abbrev main_while0b_v254 : Ref sig .tc := ⟨.hbm, 337, rfl⟩
abbrev main_while0b_v255 : Ref sig .tc := ⟨.hbm, 338, rfl⟩
abbrev main_while0b_c_60 : Ref sig .tc := ⟨.hbm, 339, rfl⟩
abbrev main_while0b_v256 : Ref sig .tc := ⟨.hbm, 340, rfl⟩
abbrev main_while0b_v257 : Ref sig .tc := ⟨.hbm, 341, rfl⟩
abbrev main_while0b_v258 : Ref sig .tc := ⟨.hbm, 342, rfl⟩
abbrev main_while0b_v259 : Ref sig .tc := ⟨.hbm, 343, rfl⟩
abbrev main_while0b_v260 : Ref sig .tc := ⟨.hbm, 344, rfl⟩
abbrev main_while0b_v261 : Ref sig .tc := ⟨.hbm, 345, rfl⟩
abbrev main_while0b_v262 : Ref sig .tc := ⟨.hbm, 346, rfl⟩
abbrev main_while0b_v263 : Ref sig .tc := ⟨.hbm, 347, rfl⟩
abbrev main_while0b_c_61 : Ref sig .tc := ⟨.hbm, 348, rfl⟩
abbrev main_while0b_v264 : Ref sig .tc := ⟨.hbm, 349, rfl⟩
abbrev main_v185 : Ref sig .tc := ⟨.hbm, 350, rfl⟩
abbrev main_cst_31 : Ref sig .tc := ⟨.hbm, 351, rfl⟩
abbrev main_call8_v0 : Ref sig .tc := ⟨.hbm, 352, rfl⟩
abbrev main_call8_v1 : Ref sig .tc := ⟨.hbm, 353, rfl⟩
abbrev main_v186 : Ref sig .tc := ⟨.hbm, 354, rfl⟩
abbrev main_values_32 : Ref sig .tc := ⟨.hbm, 355, rfl⟩
abbrev main_indices_33 : Ref sig .tc := ⟨.hbm, 356, rfl⟩
abbrev main_c_34 : Ref sig .tc := ⟨.hbm, 357, rfl⟩
abbrev main_v187 : Ref sig .tc := ⟨.hbm, 358, rfl⟩
abbrev main_v188 : Ref sig .tc := ⟨.hbm, 359, rfl⟩
abbrev main_c_35 : Ref sig .tc := ⟨.hbm, 360, rfl⟩
abbrev main_v189 : Ref sig .tc := ⟨.hbm, 361, rfl⟩
abbrev main_v190 : Ref sig .tc := ⟨.hbm, 362, rfl⟩
abbrev main_v191 : Ref sig .tc := ⟨.hbm, 363, rfl⟩
abbrev main_v192 : Ref sig .tc := ⟨.hbm, 364, rfl⟩
abbrev main_v193 : Ref sig .tc := ⟨.hbm, 365, rfl⟩
abbrev main_v194 : Ref sig .tc := ⟨.hbm, 366, rfl⟩
abbrev main_v195 : Ref sig .tc := ⟨.hbm, 367, rfl⟩

abbrev nD : Nat := 1
abbrev τ : Topo := Topo.v7x

variable {F : FTy → Type} [FloatOps F]

abbrev main_while0_count : Scf.Loop 32 := ⟨0#32, 6000#32, 1#32⟩
-- ==== Proof.KernelRun.lean ====
/-
  The idealized kernel's run: where its result array and its arguments end. The launch's set-up is the frame
  certificate's; what is read off the last thread state is the result array as well.
-/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- From any memory with zero counters every run of the kernel program terminates with the result array at the last
    boundary's contents and every argument array as launched. -/
theorem valueRun : θ_run defs (onTc (τ := τ) (main (F := F))) ⟨m, fun _ => 0, ρ⟩ (fun r => ∀ c : Dev nD,
      r.2.mem ((c.tc : Thread nD τ).loc main_v149) = W27 m ρ c (Proc.devRef .tc main_v149)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W27 m ρ c b)
    (hfin := fun c s' => by
      iintro ⟨⟨Hh, -⟩, HSI⟩
      unfold StableHlo.held
      imodintro
      iapply (pointsTo_read_all (Pipeline.ucRefs τ sig) (fun b => (((c : Thread nD τ)).1, b)) (W27 m ρ c) s')
      isplitl [Hh] <;> iassumption)
    (hQ := fun s h hz c =>
      ⟨h c _ (mem_uc main_v149 (by decide)),
       (h c _ (mem_uc main_arg0 (by decide))).trans (W27_main_arg0 m ρ c),
       (h c _ (mem_uc main_arg1 (by decide))).trans (W27_main_arg1 m ρ c),
       (h c _ (mem_uc main_arg2 (by decide))).trans (W27_main_arg2 m ρ c),
       (h c _ (mem_uc main_arg3 (by decide))).trans (W27_main_arg3 m ρ c),
       (h c _ (mem_uc main_arg4 (by decide))).trans (W27_main_arg4 m ρ c),
       (h c _ (mem_uc main_arg5 (by decide))).trans (W27_main_arg5 m ρ c),
       (h c _ (mem_uc main_arg6 (by decide))).trans (W27_main_arg6 m ρ c),
       (h c _ (mem_uc main_arg7 (by decide))).trans (W27_main_arg7 m ρ c)⟩)

end Cert.KernelIdeal.Gen

end
-- ==== Proof.ReferenceRun.lean ====
/-
  The idealized reference's run: its result array ends at the fold of its operations, and its arguments end as launched.
-/
module

public import proofs.«01_k».proof.Defs
public import proofs.«01_k».proof.Proof.Gen.ReferenceIdeal.Run
public import Idealize.ShloMosaic.Lib.Quiescent

@[expose] public section

set_option maxRecDepth 16384

noncomputable section

namespace Cert.ReferenceIdeal.Value

open Idealize.ShloMosaic Idealize.ShloMosaic.TcCoe Idealize.SL.Sem
open Idealize.ShloMosaic.StableHlo Cert.ReferenceIdeal.Gen

variable {F : FTy → Type} [FloatOps F]
variable (m : (ℓ : Loc nD τ sig) → Buf (Elt F) ℓ) (ρ : Dev nD → PrngReg)

/-- The reference's arguments. -/
abbrev args : List (Ref sig .tc) :=
  [main_arg0, main_arg1, main_arg2, main_arg3, main_arg4, main_arg5, main_arg6, main_arg7]

/-- What this stretch after the loop writes. -/
abbrev hostOps0_17_W : List (Ref sig .tc) := [main_v185, main_cst_31]
theorem hostOps0_17_writes : (hostOps0_17 : List (HloOp τ sig (Elt F))).Forall fun op => op.writes ⊆ (hostOps0_17_W.map (Proc.devRef (τ := τ) .tc)).toFinset :=
  StableHlo.forall_writes_sub_of_map rfl
/-- What this stretch after the loop writes. -/
abbrev hostOps0_18_W : List (Ref sig .tc) := [main_call8_v0, main_call8_v1, main_v186]
theorem hostOps0_18_writes : (hostOps0_18 : List (HloOp τ sig (Elt F))).Forall fun op => op.writes ⊆ (hostOps0_18_W.map (Proc.devRef (τ := τ) .tc)).toFinset :=
  StableHlo.forall_writes_sub_of_map rfl
/-- What this stretch after the loop writes. -/
abbrev hostOps0_19_W : List (Ref sig .tc) := [main_values_32, main_indices_33, main_c_34, main_v187, main_v188, main_c_35, main_v189, main_v190, main_v191, main_v192, main_v193, main_v194, main_v195]
theorem hostOps0_19_writes : (hostOps0_19 : List (HloOp τ sig (Elt F))).Forall fun op => op.writes ⊆ (hostOps0_19_W.map (Proc.devRef (τ := τ) .tc)).toFinset :=
  StableHlo.forall_writes_sub_of_map rfl
/-- No stretch of operations writes an argument. -/
theorem hostOps0_args : ∀ r ∈ args, r ∉ hostOps0_W := by decide
theorem hostOps0_1_args : ∀ r ∈ args, r ∉ hostOps0_1_W := by decide
theorem hostOps0_2_args : ∀ r ∈ args, r ∉ hostOps0_2_W := by decide
theorem hostOps0_3_args : ∀ r ∈ args, r ∉ hostOps0_3_W := by decide
theorem hostOps0_4_args : ∀ r ∈ args, r ∉ hostOps0_4_W := by decide
theorem hostOps0_5_args : ∀ r ∈ args, r ∉ hostOps0_5_W := by decide
theorem hostOps0_6_args : ∀ r ∈ args, r ∉ hostOps0_6_W := by decide
theorem hostOps0_7_args : ∀ r ∈ args, r ∉ hostOps0_7_W := by decide
theorem hostOps0_8_args : ∀ r ∈ args, r ∉ hostOps0_8_W := by decide
theorem hostOps0_9_args : ∀ r ∈ args, r ∉ hostOps0_9_W := by decide
theorem hostOps0_10_args : ∀ r ∈ args, r ∉ hostOps0_10_W := by decide
theorem hostOps0_11_args : ∀ r ∈ args, r ∉ hostOps0_11_W := by decide
theorem hostOps0_12_args : ∀ r ∈ args, r ∉ hostOps0_12_W := by decide
theorem hostOps0_13_args : ∀ r ∈ args, r ∉ hostOps0_13_W := by decide
theorem hostOps0_14_args : ∀ r ∈ args, r ∉ hostOps0_14_W := by decide
theorem hostOps0_15_args : ∀ r ∈ args, r ∉ hostOps0_15_W := by decide
theorem hostOps0_16_args : ∀ r ∈ args, r ∉ hostOps0_16_W := by decide
theorem hostOps0_17_args : ∀ r ∈ args, r ∉ hostOps0_17_W := by decide
theorem hostOps0_18_args : ∀ r ∈ args, r ∉ hostOps0_18_W := by decide
theorem hostOps0_19_args : ∀ r ∈ args, r ∉ hostOps0_19_W := by decide
theorem while0Ops0_args : ∀ r ∈ args, r ∉ while0Ops0_W := by decide
theorem condOps_args : ∀ r ∈ args, r ∉ condOps_W := by decide

/-- Before the loop an argument is as launched. -/
theorem entry_arg (c : Dev nD) (r : Ref sig .tc) (h : r ∈ args) :
    entryContents preI m c (Proc.devRef .tc r) = m ((c.tc : Thread nD τ).loc r) := by
  simp only [entryContents, afterL_cons, afterL_nil]
  rw [after_of_writes_sub hostOps0_16 _ hostOps0_16_writes (hostOps0_16_args r h)]
  rw [after_of_writes_sub hostOps0_15 _ hostOps0_15_writes (hostOps0_15_args r h)]
  rw [after_of_writes_sub hostOps0_14 _ hostOps0_14_writes (hostOps0_14_args r h)]
  rw [after_of_writes_sub hostOps0_13 _ hostOps0_13_writes (hostOps0_13_args r h)]
  rw [after_of_writes_sub hostOps0_12 _ hostOps0_12_writes (hostOps0_12_args r h)]
  rw [after_of_writes_sub hostOps0_11 _ hostOps0_11_writes (hostOps0_11_args r h)]
  rw [after_of_writes_sub hostOps0_10 _ hostOps0_10_writes (hostOps0_10_args r h)]
  rw [after_of_writes_sub hostOps0_9 _ hostOps0_9_writes (hostOps0_9_args r h)]
  rw [after_of_writes_sub hostOps0_8 _ hostOps0_8_writes (hostOps0_8_args r h)]
  rw [after_of_writes_sub hostOps0_7 _ hostOps0_7_writes (hostOps0_7_args r h)]
  rw [after_of_writes_sub hostOps0_6 _ hostOps0_6_writes (hostOps0_6_args r h)]
  rw [after_of_writes_sub hostOps0_5 _ hostOps0_5_writes (hostOps0_5_args r h)]
  rw [after_of_writes_sub hostOps0_4 _ hostOps0_4_writes (hostOps0_4_args r h)]
  rw [after_of_writes_sub hostOps0_3 _ hostOps0_3_writes (hostOps0_3_args r h)]
  rw [after_of_writes_sub hostOps0_2 _ hostOps0_2_writes (hostOps0_2_args r h)]
  rw [after_of_writes_sub hostOps0_1 _ hostOps0_1_writes (hostOps0_1_args r h)]
  rw [after_of_writes_sub hostOps0 _ hostOps0_writes (hostOps0_args r h)]

/-- A buffer the loop does not write is at every trip as at the loop's entry. -/
theorem atK_keep (c : Dev nD) (r : Ref sig .tc) (hb : r ∉ while0Ops0_W) (hc : r ∉ condOps_W) :
    ∀ k, atK m k c (Proc.devRef .tc r) = entryContents preI m c (Proc.devRef .tc r)
  | 0 => rfl
  | k + 1 => by
    rw [show atK m (k + 1) c = afterL bodyI (after condOps (atK m k c)) from rfl]
    simp only [afterL_cons, afterL_nil]
    rw [after_of_writes_sub while0Ops0 _ while0Ops0_writes hb,
      after_of_writes_sub condOps _ condOps_writes hc]
    exact atK_keep c r hb hc k

/-- After the run an argument is as launched. -/
theorem final_arg (c : Dev nD) (r : Ref sig .tc) (h : r ∈ args) :
    finalContents condOps preI bodyI postI 6000 m c (Proc.devRef .tc r) = m ((c.tc : Thread nD τ).loc r) := by
  unfold finalContents
  simp only [afterL_cons, afterL_nil]
  rw [after_of_writes_sub hostOps0_19 _ hostOps0_19_writes (hostOps0_19_args r h)]
  rw [after_of_writes_sub hostOps0_18 _ hostOps0_18_writes (hostOps0_18_args r h)]
  rw [after_of_writes_sub hostOps0_17 _ hostOps0_17_writes (hostOps0_17_args r h)]
  rw [after_of_writes_sub condOps _ condOps_writes (condOps_args r h)]
  exact (atK_keep m c r (while0Ops0_args r h) (condOps_args r h) 6000).trans (entry_arg m c r h)

/-- From any memory with zero counters every run of the reference terminates with the result array at the fold of its
    operations and every argument array as launched. -/
theorem valueRun : θ_run (defs (F := F)) (onTc (τ := τ) (main (F := F))) ⟨m, fun _ => 0, ρ⟩ (fun r => ∀ c : Dev nD,
      r.2.mem ((c.tc : Thread nD τ).loc main_v195) = finalContents condOps preI bodyI postI 6000 m c (Proc.devRef .tc main_v195)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run _ _ _).mono (fun r h c => ⟨h c main_v195 (by decide),
      (h c main_arg0 (by decide)).trans (final_arg m c main_arg0 (by decide)),
      (h c main_arg1 (by decide)).trans (final_arg m c main_arg1 (by decide)),
      (h c main_arg2 (by decide)).trans (final_arg m c main_arg2 (by decide)),
      (h c main_arg3 (by decide)).trans (final_arg m c main_arg3 (by decide)),
      (h c main_arg4 (by decide)).trans (final_arg m c main_arg4 (by decide)),
      (h c main_arg5 (by decide)).trans (final_arg m c main_arg5 (by decide)),
      (h c main_arg6 (by decide)).trans (final_arg m c main_arg6 (by decide)),
      (h c main_arg7 (by decide)).trans (final_arg m c main_arg7 (by decide))⟩)
    (run_fold m ρ)

/-- The reference's frame: it terminates with its arguments unchanged and every semaphore counter at zero. -/
theorem frame : Cert.quiescent_ReferenceIdeal := fun m ρ _ =>
  (θ_run Cert.ReferenceIdeal.defs _ _).mono (fun r h => ⟨fun c => (h c).2,
      Idealize.ShloMosaic.sem_eq_zero_of_no_sems (by decide) r.2⟩) (valueRun m ρ)

end Cert.ReferenceIdeal.Value

end
-- ==== Proof.HeadSpec.lean ====
module

public import Idealize.ShloMosaic.Lib.Pointwise

@[expose] public section

noncomputable section

/-! The score and the box of one anchor, and the network that gives its logits, over the extended reals. -/

namespace Cert.Head

open Idealize.ShloMosaic

/-- The logistic function. -/
def scoreOf (t : EReal) : EReal := Ideal.div 1 (1 + Ideal.exp (-t))

/-- The centre, along one axis, of the box decoded from the offset `d` for an anchor from `s + b` to `s + c`. -/
def centre (d s b c : EReal) : EReal :=
  d * (s + c - (s + b)) + (s + b + Ideal.ofBits .f32 1056964608#32 * (s + c - (s + b)))

/-- Half the extent, along one axis, of the box decoded from the log scale `e`, which is bounded above first. -/
def halfExtent (e s b c : EReal) : EReal :=
  Ideal.ofBits .f32 1056964608#32 * (Ideal.exp (min e (Ideal.ofBits .f32 1082413897#32)) * (s + c - (s + b)))

/-- A coordinate cut to the image. -/
def clip (t : EReal) : EReal := min (Ideal.ofBits .f32 1145569280#32) (max 0 t)

/-- The lower edge of the decoded box, cut to the image. -/
def low (d e s b c : EReal) : EReal := clip (centre d s b c - halfExtent e s b c)

/-- The upper edge of the decoded box, cut to the image. -/
def high (d e s b c : EReal) : EReal := clip (centre d s b c + halfExtent e s b c)

theorem clip_nonneg (t : EReal) : 0 ≤ clip t := by
  refine le_min ?_ (le_max_left _ _)
  have : Ideal.ofBits .f32 1145569280#32 = ((800 : ℝ) : EReal) := by
    simp [Ideal.ofBits, Ideal.ieee, -EReal.coe_mul]; norm_num
  rw [this]
  exact_mod_cast (by norm_num : (0 : ℝ) ≤ 800)

/-- One tap's share of a hidden feature: channels summed. -/
def tap (w x : Fin 256 → EReal) : EReal := ∑ c, w c * x c

/-- A hidden feature: the nine taps' shares, the bias, and the negative part cut off. `w t` are tap `t`'s weights and
    `x t` the pixel under it. -/
def feature (w x : Fin 9 → Fin 256 → EReal) (b : EReal) : EReal :=
  max (tap (w 0) (x 0) + tap (w 1) (x 1) + tap (w 2) (x 2) + tap (w 3) (x 3) + tap (w 4) (x 4) + tap (w 5) (x 5) + tap (w 6) (x 6)
    + tap (w 7) (x 7) + tap (w 8) (x 8) + b) 0

/-- A logit: the hidden features weighted, and a bias. -/
def logit (w h : Fin 256 → EReal) (b : EReal) : EReal := (∑ o, w o * h o) + b

/-- The value of channel `c` at place `(y, x)` of a feature map with a border of one zero. -/
def pixel (f : Fin 256 → Fin 50 → Fin 50 → EReal) (y x : ℕ) (c : Fin 256) : EReal :=
  if h : (1 ≤ y ∧ y - 1 < 50) ∧ 1 ≤ x ∧ x - 1 < 50 then f c ⟨y - 1, h.1.2⟩ ⟨x - 1, h.2.2⟩ else 0

/-- Where the centre of cell `n` lies along its axis. -/
def position (n : ℕ) : EReal := (((n : ℝ) : EReal) + Ideal.ofBits .f32 1056964608#32) * Ideal.ofBits .f32 1098907648#32

/-- What the head works from: the feature map, the filters of the hidden layer and their biases, the weights and biases of
    the class logits and of the box offsets, and the anchors at the origin. -/
structure Net where
  image : Fin 256 → Fin 50 → Fin 50 → EReal
  filter : Fin 256 → Fin 256 → Fin 3 → Fin 3 → EReal
  shift : Fin 256 → EReal
  classWeight : Fin 9 → Fin 256 → EReal
  classShift : Fin 9 → EReal
  boxWeight : Fin 36 → Fin 256 → EReal
  boxShift : Fin 36 → EReal
  anchor : Fin 9 → Fin 4 → EReal

namespace Net

/-- Hidden feature `o` at cell `(y, x)`. -/
def hiddenAt (N : Net) (y x : ℕ) (o : Fin 256) : EReal :=
  feature (fun t k => N.filter o k ⟨t.1 / 3, by omega⟩ ⟨t.1 % 3, by omega⟩) (fun t k => pixel N.image (y + t.1 / 3) (x + t.1 % 3) k)
    (N.shift o)

/-- The class logit of anchor `a` at cell `(y, x)`. -/
def classLogit (N : Net) (y x : ℕ) (a : Fin 9) : EReal := logit (N.classWeight a) (N.hiddenAt y x) (N.classShift a)

/-- The box offset `j` of anchor `a` at cell `(y, x)`: two shifts, then two log scales. -/
def boxLogit (N : Net) (y x : ℕ) (a : Fin 9) (j : Fin 4) : EReal :=
  logit (N.boxWeight ⟨a * 4 + j, by omega⟩) (N.hiddenAt y x) (N.boxShift ⟨a * 4 + j, by omega⟩)

/-- The score of the anchor numbered `p`: cells row by row, nine anchors to a cell. -/
def score (N : Net) (p : Fin 22500) : EReal := scoreOf (N.classLogit (p.1 / 9 / 50) (p.1 / 9 % 50) ⟨p.1 % 9, by omega⟩)

/-- The edges of its box. -/
def left (N : Net) (p : Fin 22500) : EReal :=
  low (N.boxLogit (p.1 / 9 / 50) (p.1 / 9 % 50) ⟨p.1 % 9, by omega⟩ 0) (N.boxLogit (p.1 / 9 / 50) (p.1 / 9 % 50) ⟨p.1 % 9, by omega⟩ 2)
    (position (p.1 / 9 % 50)) (N.anchor ⟨p.1 % 9, by omega⟩ 0) (N.anchor ⟨p.1 % 9, by omega⟩ 2)

def top (N : Net) (p : Fin 22500) : EReal :=
  low (N.boxLogit (p.1 / 9 / 50) (p.1 / 9 % 50) ⟨p.1 % 9, by omega⟩ 1) (N.boxLogit (p.1 / 9 / 50) (p.1 / 9 % 50) ⟨p.1 % 9, by omega⟩ 3)
    (position (p.1 / 9 / 50)) (N.anchor ⟨p.1 % 9, by omega⟩ 1) (N.anchor ⟨p.1 % 9, by omega⟩ 3)

def right (N : Net) (p : Fin 22500) : EReal :=
  high (N.boxLogit (p.1 / 9 / 50) (p.1 / 9 % 50) ⟨p.1 % 9, by omega⟩ 0) (N.boxLogit (p.1 / 9 / 50) (p.1 / 9 % 50) ⟨p.1 % 9, by omega⟩ 2)
    (position (p.1 / 9 % 50)) (N.anchor ⟨p.1 % 9, by omega⟩ 0) (N.anchor ⟨p.1 % 9, by omega⟩ 2)

def bottom (N : Net) (p : Fin 22500) : EReal :=
  high (N.boxLogit (p.1 / 9 / 50) (p.1 / 9 % 50) ⟨p.1 % 9, by omega⟩ 1) (N.boxLogit (p.1 / 9 / 50) (p.1 / 9 % 50) ⟨p.1 % 9, by omega⟩ 3)
    (position (p.1 / 9 / 50)) (N.anchor ⟨p.1 % 9, by omega⟩ 1) (N.anchor ⟨p.1 % 9, by omega⟩ 3)

end Net

end Cert.Head

end
-- ==== Proof.KernelOperands.lean ====
module

public import proofs.«01_k».proof.Proof.Gen.KernelIdeal.Frame
public import proofs.«01_k».proof.Proof.HeadSpec
public import Idealize.ShloMosaic.Lib.Pointwise

@[expose] public section

set_option maxRecDepth 16384

noncomputable section

/-! The arrays the head launch is entered with, as functions of the program's arguments. -/

namespace Cert.KernelIdeal.Gen

open Cert.Head Idealize.ShloMosaic Idealize.ShloMosaic.TcCoe Idealize.ShloMosaic.Tactic

/-- The zero the program pads with. -/
def padZero : FVec Ideal S_ .f32 := sitofp .f32 (constantI S_ 32 0#32)

/-- The feature map with its channels last and a border of one zero. -/
def bordered (x : FVec Ideal S1x256x50x50 .f32) : FVec Ideal S52x52x256 .f32 :=
  pad S52x52x256 ![1, 1, 0] ![1, 1, 0] ![0, 0, 0]
    (shapeCast S50x50x256 (transpose S1x50x50x256 [0, 2, 3, 1] x transposes_S1x256x50x50_S1x50x50x256_0_2_3_1) shapeCasts_S1x50x50x256_S50x50x256)
    padZero pads_S50x50x256_S52x52x256_110_110_000 h_S_

/-- Four more rows of zeros below. -/
def lengthened (x : FVec Ideal S2500x2304 .f32) : FVec Ideal S2504x2304 .f32 :=
  pad S2504x2304 ![0, 0] ![4, 0] ![0, 0] x padZero pads_S2500x2304_S2504x2304_040_000 h_S_

/-- The pixels under tap (0, 0). -/
def under0 (x : FVec Ideal S52x52x256 .f32) : FVec Ideal S2500x256 .f32 :=
  shapeCast S2500x256 (extractStridedSlice S50x50x256 ![0, 0, 0] x slices_S52x52x256_S50x50x256_0_0_0) shapeCasts_S50x50x256_S2500x256

/-- The weights of tap (0, 0), input channel first. -/
def weights0 (w : FVec Ideal S256x256x3x3 .f32) : FVec Ideal S256x256 .f32 :=
  transpose S256x256 [1, 0] (shapeCast S256x256 (extractStridedSlice S256x256x1x1 ![0, 0, 0, 0] w slices_S256x256x3x3_S256x256x1x1_0_0_0_0) shapeCasts_S256x256x1x1_S256x256) transposes_S256x256_S256x256_1_0

/-- The pixels under tap (0, 1). -/
def under1 (x : FVec Ideal S52x52x256 .f32) : FVec Ideal S2500x256 .f32 :=
  shapeCast S2500x256 (extractStridedSlice S50x50x256 ![0, 1, 0] x slices_S52x52x256_S50x50x256_0_1_0) shapeCasts_S50x50x256_S2500x256

/-- The weights of tap (0, 1), input channel first. -/
def weights1 (w : FVec Ideal S256x256x3x3 .f32) : FVec Ideal S256x256 .f32 :=
  transpose S256x256 [1, 0] (shapeCast S256x256 (extractStridedSlice S256x256x1x1 ![0, 0, 0, 1] w slices_S256x256x3x3_S256x256x1x1_0_0_0_1) shapeCasts_S256x256x1x1_S256x256) transposes_S256x256_S256x256_1_0

/-- The pixels under tap (0, 2). -/
def under2 (x : FVec Ideal S52x52x256 .f32) : FVec Ideal S2500x256 .f32 :=
  shapeCast S2500x256 (extractStridedSlice S50x50x256 ![0, 2, 0] x slices_S52x52x256_S50x50x256_0_2_0) shapeCasts_S50x50x256_S2500x256

/-- The weights of tap (0, 2), input channel first. -/
def weights2 (w : FVec Ideal S256x256x3x3 .f32) : FVec Ideal S256x256 .f32 :=
  transpose S256x256 [1, 0] (shapeCast S256x256 (extractStridedSlice S256x256x1x1 ![0, 0, 0, 2] w slices_S256x256x3x3_S256x256x1x1_0_0_0_2) shapeCasts_S256x256x1x1_S256x256) transposes_S256x256_S256x256_1_0

/-- The pixels under tap (1, 0). -/
def under3 (x : FVec Ideal S52x52x256 .f32) : FVec Ideal S2500x256 .f32 :=
  shapeCast S2500x256 (extractStridedSlice S50x50x256 ![1, 0, 0] x slices_S52x52x256_S50x50x256_1_0_0) shapeCasts_S50x50x256_S2500x256

/-- The weights of tap (1, 0), input channel first. -/
def weights3 (w : FVec Ideal S256x256x3x3 .f32) : FVec Ideal S256x256 .f32 :=
  transpose S256x256 [1, 0] (shapeCast S256x256 (extractStridedSlice S256x256x1x1 ![0, 0, 1, 0] w slices_S256x256x3x3_S256x256x1x1_0_0_1_0) shapeCasts_S256x256x1x1_S256x256) transposes_S256x256_S256x256_1_0

/-- The pixels under tap (1, 1). -/
def under4 (x : FVec Ideal S52x52x256 .f32) : FVec Ideal S2500x256 .f32 :=
  shapeCast S2500x256 (extractStridedSlice S50x50x256 ![1, 1, 0] x slices_S52x52x256_S50x50x256_1_1_0) shapeCasts_S50x50x256_S2500x256

/-- The weights of tap (1, 1), input channel first. -/
def weights4 (w : FVec Ideal S256x256x3x3 .f32) : FVec Ideal S256x256 .f32 :=
  transpose S256x256 [1, 0] (shapeCast S256x256 (extractStridedSlice S256x256x1x1 ![0, 0, 1, 1] w slices_S256x256x3x3_S256x256x1x1_0_0_1_1) shapeCasts_S256x256x1x1_S256x256) transposes_S256x256_S256x256_1_0

/-- The pixels under tap (1, 2). -/
def under5 (x : FVec Ideal S52x52x256 .f32) : FVec Ideal S2500x256 .f32 :=
  shapeCast S2500x256 (extractStridedSlice S50x50x256 ![1, 2, 0] x slices_S52x52x256_S50x50x256_1_2_0) shapeCasts_S50x50x256_S2500x256

/-- The weights of tap (1, 2), input channel first. -/
def weights5 (w : FVec Ideal S256x256x3x3 .f32) : FVec Ideal S256x256 .f32 :=
  transpose S256x256 [1, 0] (shapeCast S256x256 (extractStridedSlice S256x256x1x1 ![0, 0, 1, 2] w slices_S256x256x3x3_S256x256x1x1_0_0_1_2) shapeCasts_S256x256x1x1_S256x256) transposes_S256x256_S256x256_1_0

/-- The pixels under tap (2, 0). -/
def under6 (x : FVec Ideal S52x52x256 .f32) : FVec Ideal S2500x256 .f32 :=
  shapeCast S2500x256 (extractStridedSlice S50x50x256 ![2, 0, 0] x slices_S52x52x256_S50x50x256_2_0_0) shapeCasts_S50x50x256_S2500x256

/-- The weights of tap (2, 0), input channel first. -/
def weights6 (w : FVec Ideal S256x256x3x3 .f32) : FVec Ideal S256x256 .f32 :=
  transpose S256x256 [1, 0] (shapeCast S256x256 (extractStridedSlice S256x256x1x1 ![0, 0, 2, 0] w slices_S256x256x3x3_S256x256x1x1_0_0_2_0) shapeCasts_S256x256x1x1_S256x256) transposes_S256x256_S256x256_1_0

/-- The pixels under tap (2, 1). -/
def under7 (x : FVec Ideal S52x52x256 .f32) : FVec Ideal S2500x256 .f32 :=
  shapeCast S2500x256 (extractStridedSlice S50x50x256 ![2, 1, 0] x slices_S52x52x256_S50x50x256_2_1_0) shapeCasts_S50x50x256_S2500x256

/-- The weights of tap (2, 1), input channel first. -/
def weights7 (w : FVec Ideal S256x256x3x3 .f32) : FVec Ideal S256x256 .f32 :=
  transpose S256x256 [1, 0] (shapeCast S256x256 (extractStridedSlice S256x256x1x1 ![0, 0, 2, 1] w slices_S256x256x3x3_S256x256x1x1_0_0_2_1) shapeCasts_S256x256x1x1_S256x256) transposes_S256x256_S256x256_1_0

/-- The pixels under tap (2, 2). -/
def under8 (x : FVec Ideal S52x52x256 .f32) : FVec Ideal S2500x256 .f32 :=
  shapeCast S2500x256 (extractStridedSlice S50x50x256 ![2, 2, 0] x slices_S52x52x256_S50x50x256_2_2_0) shapeCasts_S50x50x256_S2500x256

/-- The weights of tap (2, 2), input channel first. -/
def weights8 (w : FVec Ideal S256x256x3x3 .f32) : FVec Ideal S256x256 .f32 :=
  transpose S256x256 [1, 0] (shapeCast S256x256 (extractStridedSlice S256x256x1x1 ![0, 0, 2, 2] w slices_S256x256x3x3_S256x256x1x1_0_0_2_2) shapeCasts_S256x256x1x1_S256x256) transposes_S256x256_S256x256_1_0

/-- The nine taps' pixels side by side. -/
def patches (x : FVec Ideal S52x52x256 .f32) : FVec Ideal S2500x2304 .f32 :=
  concatenate S2500x2304 1 [⟨S2500x256, under0 x⟩, ⟨S2500x256, under1 x⟩, ⟨S2500x256, under2 x⟩, ⟨S2500x256, under3 x⟩, ⟨S2500x256, under4 x⟩, ⟨S2500x256, under5 x⟩, ⟨S2500x256, under6 x⟩, ⟨S2500x256, under7 x⟩, ⟨S2500x256, under8 x⟩]
    concatenates_S2500x256_S2500x256_S2500x256_S2500x256_S2500x256_S2500x256_S2500x256_S2500x256_S2500x256_S2500x2304_d1

/-- The nine taps' weights one below another. -/
def filters (w : FVec Ideal S256x256x3x3 .f32) : FVec Ideal S2304x256 .f32 :=
  concatenate S2304x256 0 [⟨S256x256, weights0 w⟩, ⟨S256x256, weights1 w⟩, ⟨S256x256, weights2 w⟩, ⟨S256x256, weights3 w⟩, ⟨S256x256, weights4 w⟩, ⟨S256x256, weights5 w⟩, ⟨S256x256, weights6 w⟩, ⟨S256x256, weights7 w⟩, ⟨S256x256, weights8 w⟩]
    concatenates_S256x256_S256x256_S256x256_S256x256_S256x256_S256x256_S256x256_S256x256_S256x256_S2304x256_d0

/-- The regression weights of coordinate 0, hidden feature first. -/
def slopes0 (w : FVec Ideal S36x256x1x1 .f32) : FVec Ideal S256x9 .f32 :=
  transpose S256x9 [1, 0] (shapeCast S9x256 (extractStridedSlice S9x1x256 ![0, 0, 0] (shapeCast S9x4x256 w shapeCasts_S36x256x1x1_S9x4x256) slices_S9x4x256_S9x1x256_0_0_0) shapeCasts_S9x1x256_S9x256) transposes_S9x256_S256x9_1_0

/-- The regression biases of coordinate 0. -/
def offsets0 (b : FVec Ideal S36 .f32) : FVec Ideal S9 .f32 :=
  shapeCast S9 (extractStridedSlice S9x1 ![0, 0] (shapeCast S9x4 b shapeCasts_S36_S9x4) slices_S9x4_S9x1_0_0) shapeCasts_S9x1_S9

/-- The regression weights of coordinate 1, hidden feature first. -/
def slopes1 (w : FVec Ideal S36x256x1x1 .f32) : FVec Ideal S256x9 .f32 :=
  transpose S256x9 [1, 0] (shapeCast S9x256 (extractStridedSlice S9x1x256 ![0, 1, 0] (shapeCast S9x4x256 w shapeCasts_S36x256x1x1_S9x4x256) slices_S9x4x256_S9x1x256_0_1_0) shapeCasts_S9x1x256_S9x256) transposes_S9x256_S256x9_1_0

/-- The regression biases of coordinate 1. -/
def offsets1 (b : FVec Ideal S36 .f32) : FVec Ideal S9 .f32 :=
  shapeCast S9 (extractStridedSlice S9x1 ![0, 1] (shapeCast S9x4 b shapeCasts_S36_S9x4) slices_S9x4_S9x1_0_1) shapeCasts_S9x1_S9

/-- The regression weights of coordinate 2, hidden feature first. -/
def slopes2 (w : FVec Ideal S36x256x1x1 .f32) : FVec Ideal S256x9 .f32 :=
  transpose S256x9 [1, 0] (shapeCast S9x256 (extractStridedSlice S9x1x256 ![0, 2, 0] (shapeCast S9x4x256 w shapeCasts_S36x256x1x1_S9x4x256) slices_S9x4x256_S9x1x256_0_2_0) shapeCasts_S9x1x256_S9x256) transposes_S9x256_S256x9_1_0

/-- The regression biases of coordinate 2. -/
def offsets2 (b : FVec Ideal S36 .f32) : FVec Ideal S9 .f32 :=
  shapeCast S9 (extractStridedSlice S9x1 ![0, 2] (shapeCast S9x4 b shapeCasts_S36_S9x4) slices_S9x4_S9x1_0_2) shapeCasts_S9x1_S9

/-- The regression weights of coordinate 3, hidden feature first. -/
def slopes3 (w : FVec Ideal S36x256x1x1 .f32) : FVec Ideal S256x9 .f32 :=
  transpose S256x9 [1, 0] (shapeCast S9x256 (extractStridedSlice S9x1x256 ![0, 3, 0] (shapeCast S9x4x256 w shapeCasts_S36x256x1x1_S9x4x256) slices_S9x4x256_S9x1x256_0_3_0) shapeCasts_S9x1x256_S9x256) transposes_S9x256_S256x9_1_0

/-- The regression biases of coordinate 3. -/
def offsets3 (b : FVec Ideal S36 .f32) : FVec Ideal S9 .f32 :=
  shapeCast S9 (extractStridedSlice S9x1 ![0, 3] (shapeCast S9x4 b shapeCasts_S36_S9x4) slices_S9x4_S9x1_0_3) shapeCasts_S9x1_S9

/-- The class weights, hidden feature first. -/
def classSlopes (w : FVec Ideal S9x256x1x1 .f32) : FVec Ideal S256x9 .f32 :=
  transpose S256x9 [1, 0] (shapeCast S9x256 w shapeCasts_S9x256x1x1_S9x256) transposes_S9x256_S256x9_1_0

/-- All weights of the logits, before the columns of zeros. -/
def slopes (v : FVec Ideal S9x256x1x1 .f32) (w : FVec Ideal S36x256x1x1 .f32) : FVec Ideal S256x45 .f32 :=
  concatenate S256x45 1 [⟨S256x9, classSlopes v⟩, ⟨S256x9, slopes0 w⟩, ⟨S256x9, slopes1 w⟩, ⟨S256x9, slopes2 w⟩, ⟨S256x9, slopes3 w⟩] concatenates_S256x9_S256x9_S256x9_S256x9_S256x9_S256x45_d1

/-- All biases of the logits, before the zeros. -/
def offsets (a : FVec Ideal S9 .f32) (b : FVec Ideal S36 .f32) : FVec Ideal S45 .f32 :=
  concatenate S45 0 [⟨S9, a⟩, ⟨S9, offsets0 b⟩, ⟨S9, offsets1 b⟩, ⟨S9, offsets2 b⟩, ⟨S9, offsets3 b⟩] concatenates_S9_S9_S9_S9_S9_S45_d0

def widened (x : FVec Ideal S256x45 .f32) : FVec Ideal S256x48 .f32 :=
  pad S256x48 ![0, 0] ![0, 3] ![0, 0] x padZero pads_S256x45_S256x48_000_030 h_S_

def extended (x : FVec Ideal S45 .f32) : FVec Ideal S48 .f32 := pad S48 ![0] ![3] ![0] x padZero pads_S45_S48_030 h_S_

/-- The positions of 2504 cells along one axis, from their cell numbers. -/
def positions (i : IVec S2504 32) : FVec Ideal S2504x1 .f32 :=
  broadcastInDim S2504x1 ![0] bcast_S2504_S2504x1_0
    (mulf (addf (sitofp .f32 i) (broadcastInDim S2504 ![] bcast_S_S2504 (constant (F := Ideal) S_ .f32 0x3F000000#32)))
      (broadcastInDim S2504 ![] bcast_S_S2504 (constant (F := Ideal) S_ .f32 0x41800000#32)))

/-- The zero the program pads with is zero. -/
theorem fill_zero : (FloatOps.sitofp (F := Ideal) .f32 (0#32 : BitVec 32)) = (0 : EReal) := by
  show ((((0#32 : BitVec 32).toInt : ℤ) : ℝ) : EReal) = 0
  simp

theorem under0_apply (x : FVec Ideal S1x256x50x50 .f32) (p : Fin 2500) (c : Fin 256) : under0 (bordered x) (ix2 p c)
    = pixel (fun c y z => x (ix4 0 c y z)) (p.1 / 50 + 0) (p.1 % 50 + 0) c := by
  unfold under0 bordered padZero pixel
  pointwise
  refine dite_congr (propext (by omega)) (fun _ => ?_) fun _ => fill_zero
  exact congrArg₂ (fun a b => x (ix4 0 c a b)) (Fin.ext (by dsimp only <;> omega)) (Fin.ext (by dsimp only <;> omega))

theorem under1_apply (x : FVec Ideal S1x256x50x50 .f32) (p : Fin 2500) (c : Fin 256) : under1 (bordered x) (ix2 p c)
    = pixel (fun c y z => x (ix4 0 c y z)) (p.1 / 50 + 0) (p.1 % 50 + 1) c := by
  unfold under1 bordered padZero pixel
  pointwise
  refine dite_congr (propext (by omega)) (fun _ => ?_) fun _ => fill_zero
  exact congrArg₂ (fun a b => x (ix4 0 c a b)) (Fin.ext (by dsimp only <;> omega)) (Fin.ext (by dsimp only <;> omega))

theorem under2_apply (x : FVec Ideal S1x256x50x50 .f32) (p : Fin 2500) (c : Fin 256) : under2 (bordered x) (ix2 p c)
    = pixel (fun c y z => x (ix4 0 c y z)) (p.1 / 50 + 0) (p.1 % 50 + 2) c := by
  unfold under2 bordered padZero pixel
  pointwise
  refine dite_congr (propext (by omega)) (fun _ => ?_) fun _ => fill_zero
  exact congrArg₂ (fun a b => x (ix4 0 c a b)) (Fin.ext (by dsimp only <;> omega)) (Fin.ext (by dsimp only <;> omega))

theorem under3_apply (x : FVec Ideal S1x256x50x50 .f32) (p : Fin 2500) (c : Fin 256) : under3 (bordered x) (ix2 p c)
    = pixel (fun c y z => x (ix4 0 c y z)) (p.1 / 50 + 1) (p.1 % 50 + 0) c := by
  unfold under3 bordered padZero pixel
  pointwise
  refine dite_congr (propext (by omega)) (fun _ => ?_) fun _ => fill_zero
  exact congrArg₂ (fun a b => x (ix4 0 c a b)) (Fin.ext (by dsimp only <;> omega)) (Fin.ext (by dsimp only <;> omega))

theorem under4_apply (x : FVec Ideal S1x256x50x50 .f32) (p : Fin 2500) (c : Fin 256) : under4 (bordered x) (ix2 p c)
    = pixel (fun c y z => x (ix4 0 c y z)) (p.1 / 50 + 1) (p.1 % 50 + 1) c := by
  unfold under4 bordered padZero pixel
  pointwise
  refine dite_congr (propext (by omega)) (fun _ => ?_) fun _ => fill_zero
  exact congrArg₂ (fun a b => x (ix4 0 c a b)) (Fin.ext (by dsimp only <;> omega)) (Fin.ext (by dsimp only <;> omega))

theorem under5_apply (x : FVec Ideal S1x256x50x50 .f32) (p : Fin 2500) (c : Fin 256) : under5 (bordered x) (ix2 p c)
    = pixel (fun c y z => x (ix4 0 c y z)) (p.1 / 50 + 1) (p.1 % 50 + 2) c := by
  unfold under5 bordered padZero pixel
  pointwise
  refine dite_congr (propext (by omega)) (fun _ => ?_) fun _ => fill_zero
  exact congrArg₂ (fun a b => x (ix4 0 c a b)) (Fin.ext (by dsimp only <;> omega)) (Fin.ext (by dsimp only <;> omega))

theorem under6_apply (x : FVec Ideal S1x256x50x50 .f32) (p : Fin 2500) (c : Fin 256) : under6 (bordered x) (ix2 p c)
    = pixel (fun c y z => x (ix4 0 c y z)) (p.1 / 50 + 2) (p.1 % 50 + 0) c := by
  unfold under6 bordered padZero pixel
  pointwise
  refine dite_congr (propext (by omega)) (fun _ => ?_) fun _ => fill_zero
  exact congrArg₂ (fun a b => x (ix4 0 c a b)) (Fin.ext (by dsimp only <;> omega)) (Fin.ext (by dsimp only <;> omega))

theorem under7_apply (x : FVec Ideal S1x256x50x50 .f32) (p : Fin 2500) (c : Fin 256) : under7 (bordered x) (ix2 p c)
    = pixel (fun c y z => x (ix4 0 c y z)) (p.1 / 50 + 2) (p.1 % 50 + 1) c := by
  unfold under7 bordered padZero pixel
  pointwise
  refine dite_congr (propext (by omega)) (fun _ => ?_) fun _ => fill_zero
  exact congrArg₂ (fun a b => x (ix4 0 c a b)) (Fin.ext (by dsimp only <;> omega)) (Fin.ext (by dsimp only <;> omega))

theorem under8_apply (x : FVec Ideal S1x256x50x50 .f32) (p : Fin 2500) (c : Fin 256) : under8 (bordered x) (ix2 p c)
    = pixel (fun c y z => x (ix4 0 c y z)) (p.1 / 50 + 2) (p.1 % 50 + 2) c := by
  unfold under8 bordered padZero pixel
  pointwise
  refine dite_congr (propext (by omega)) (fun _ => ?_) fun _ => fill_zero
  exact congrArg₂ (fun a b => x (ix4 0 c a b)) (Fin.ext (by dsimp only <;> omega)) (Fin.ext (by dsimp only <;> omega))

/-- The row of pixel `p` holds the nine pixels around it, channel by channel. -/
theorem patches_apply (x : FVec Ideal S1x256x50x50 .f32) (p : Fin 2500) (t : Fin 9) (k : Fin 256) :
    patches (bordered x) (ix2 p ⟨256 * t + k, by omega⟩)
      = pixel (fun c y z => x (ix4 0 c y z)) (p.1 / 50 + t.1 / 3) (p.1 % 50 + t.1 % 3) k := by
  unfold patches
  fin_cases t
  · refine Eq.trans ?_ (under0_apply x p k)
    generalize bordered x = X
    generalize under0 X = U0, under1 X = U1, under2 X = U2, under3 X = U3, under4 X = U4, under5 X = U5, under6 X = U6, under7 X = U7, under8 X = U8
    pointwise
  · refine Eq.trans ?_ (under1_apply x p k)
    generalize bordered x = X
    generalize under0 X = U0, under1 X = U1, under2 X = U2, under3 X = U3, under4 X = U4, under5 X = U5, under6 X = U6, under7 X = U7, under8 X = U8
    pointwise
  · refine Eq.trans ?_ (under2_apply x p k)
    generalize bordered x = X
    generalize under0 X = U0, under1 X = U1, under2 X = U2, under3 X = U3, under4 X = U4, under5 X = U5, under6 X = U6, under7 X = U7, under8 X = U8
    pointwise
    rw [dif_neg (by omega)]
    rw [dif_neg (by omega)]
    rw [dif_pos (by omega)]
    exact congrArg (fun z => U2 (ix2 p z)) (Fin.ext (by show 512 + k.1 - 256 - 256 = k.1; omega))
  · refine Eq.trans ?_ (under3_apply x p k)
    generalize bordered x = X
    generalize under0 X = U0, under1 X = U1, under2 X = U2, under3 X = U3, under4 X = U4, under5 X = U5, under6 X = U6, under7 X = U7, under8 X = U8
    pointwise
    rw [dif_neg (by omega)]
    rw [dif_neg (by omega)]
    rw [dif_neg (by omega)]
    rw [dif_pos (by omega)]
    exact congrArg (fun z => U3 (ix2 p z)) (Fin.ext (by show 768 + k.1 - 256 - 256 - 256 = k.1; omega))
  · refine Eq.trans ?_ (under4_apply x p k)
    generalize bordered x = X
    generalize under0 X = U0, under1 X = U1, under2 X = U2, under3 X = U3, under4 X = U4, under5 X = U5, under6 X = U6, under7 X = U7, under8 X = U8
    pointwise
    rw [dif_neg (by omega)]
    rw [dif_neg (by omega)]
    rw [dif_neg (by omega)]
    rw [dif_neg (by omega)]
    rw [dif_pos (by omega)]
    exact congrArg (fun z => U4 (ix2 p z)) (Fin.ext (by show 1024 + k.1 - 256 - 256 - 256 - 256 = k.1; omega))
  · refine Eq.trans ?_ (under5_apply x p k)
    generalize bordered x = X
    generalize under0 X = U0, under1 X = U1, under2 X = U2, under3 X = U3, under4 X = U4, under5 X = U5, under6 X = U6, under7 X = U7, under8 X = U8
    pointwise
    rw [dif_neg (by omega)]
    rw [dif_neg (by omega)]
    rw [dif_neg (by omega)]
    rw [dif_neg (by omega)]
    rw [dif_neg (by omega)]
    rw [dif_pos (by omega)]
    exact congrArg (fun z => U5 (ix2 p z)) (Fin.ext (by show 1280 + k.1 - 256 - 256 - 256 - 256 - 256 = k.1; omega))
  · refine Eq.trans ?_ (under6_apply x p k)
    generalize bordered x = X
    generalize under0 X = U0, under1 X = U1, under2 X = U2, under3 X = U3, under4 X = U4, under5 X = U5, under6 X = U6, under7 X = U7, under8 X = U8
    pointwise
    rw [dif_neg (by omega)]
    rw [dif_neg (by omega)]
    rw [dif_neg (by omega)]
    rw [dif_neg (by omega)]
    rw [dif_neg (by omega)]
    rw [dif_neg (by omega)]
    rw [dif_pos (by omega)]
    exact congrArg (fun z => U6 (ix2 p z)) (Fin.ext (by show 1536 + k.1 - 256 - 256 - 256 - 256 - 256 - 256 = k.1; omega))
  · refine Eq.trans ?_ (under7_apply x p k)
    generalize bordered x = X
    generalize under0 X = U0, under1 X = U1, under2 X = U2, under3 X = U3, under4 X = U4, under5 X = U5, under6 X = U6, under7 X = U7, under8 X = U8
    pointwise
    rw [dif_neg (by omega)]
    rw [dif_neg (by omega)]
    rw [dif_neg (by omega)]
    rw [dif_neg (by omega)]
    rw [dif_neg (by omega)]
    rw [dif_neg (by omega)]
    rw [dif_neg (by omega)]
    rw [dif_pos (by omega)]
    exact congrArg (fun z => U7 (ix2 p z)) (Fin.ext (by show 1792 + k.1 - 256 - 256 - 256 - 256 - 256 - 256 - 256 = k.1; omega))
  · refine Eq.trans ?_ (under8_apply x p k)
    generalize bordered x = X
    generalize under0 X = U0, under1 X = U1, under2 X = U2, under3 X = U3, under4 X = U4, under5 X = U5, under6 X = U6, under7 X = U7, under8 X = U8
    pointwise
    rw [dif_neg (by omega)]
    rw [dif_neg (by omega)]
    rw [dif_neg (by omega)]
    rw [dif_neg (by omega)]
    rw [dif_neg (by omega)]
    rw [dif_neg (by omega)]
    rw [dif_neg (by omega)]
    rw [dif_neg (by omega)]
    exact congrArg (fun z => U8 (ix2 p z)) (Fin.ext (by show 2048 + k.1 - 256 - 256 - 256 - 256 - 256 - 256 - 256 - 256 = k.1; omega))

theorem weights0_apply (w : FVec Ideal S256x256x3x3 .f32) (k o : Fin 256) : weights0 w (ix2 k o) = w (ix4 o k 0 0) := by
  unfold weights0
  pointwise

theorem weights1_apply (w : FVec Ideal S256x256x3x3 .f32) (k o : Fin 256) : weights1 w (ix2 k o) = w (ix4 o k 0 1) := by
  unfold weights1
  pointwise

theorem weights2_apply (w : FVec Ideal S256x256x3x3 .f32) (k o : Fin 256) : weights2 w (ix2 k o) = w (ix4 o k 0 2) := by
  unfold weights2
  pointwise

theorem weights3_apply (w : FVec Ideal S256x256x3x3 .f32) (k o : Fin 256) : weights3 w (ix2 k o) = w (ix4 o k 1 0) := by
  unfold weights3
  pointwise

theorem weights4_apply (w : FVec Ideal S256x256x3x3 .f32) (k o : Fin 256) : weights4 w (ix2 k o) = w (ix4 o k 1 1) := by
  unfold weights4
  pointwise

theorem weights5_apply (w : FVec Ideal S256x256x3x3 .f32) (k o : Fin 256) : weights5 w (ix2 k o) = w (ix4 o k 1 2) := by
  unfold weights5
  pointwise

theorem weights6_apply (w : FVec Ideal S256x256x3x3 .f32) (k o : Fin 256) : weights6 w (ix2 k o) = w (ix4 o k 2 0) := by
  unfold weights6
  pointwise

theorem weights7_apply (w : FVec Ideal S256x256x3x3 .f32) (k o : Fin 256) : weights7 w (ix2 k o) = w (ix4 o k 2 1) := by
  unfold weights7
  pointwise

theorem weights8_apply (w : FVec Ideal S256x256x3x3 .f32) (k o : Fin 256) : weights8 w (ix2 k o) = w (ix4 o k 2 2) := by
  unfold weights8
  pointwise

/-- Row `256 t + k` of the filters holds tap `t`'s weights of input channel `k`. -/
theorem filters_apply (w : FVec Ideal S256x256x3x3 .f32) (t : Fin 9) (k o : Fin 256) : filters w (ix2 ⟨256 * t + k, by omega⟩ o)
    = w (ix4 o k ⟨t.1 / 3, by omega⟩ ⟨t.1 % 3, by omega⟩) := by
  unfold filters
  fin_cases t
  · refine Eq.trans ?_ (weights0_apply w k o)
    generalize weights0 w = U0, weights1 w = U1, weights2 w = U2, weights3 w = U3, weights4 w = U4, weights5 w = U5, weights6 w = U6, weights7 w = U7, weights8 w = U8
    pointwise
  · refine Eq.trans ?_ (weights1_apply w k o)
    generalize weights0 w = U0, weights1 w = U1, weights2 w = U2, weights3 w = U3, weights4 w = U4, weights5 w = U5, weights6 w = U6, weights7 w = U7, weights8 w = U8
    pointwise
  · refine Eq.trans ?_ (weights2_apply w k o)
    generalize weights0 w = U0, weights1 w = U1, weights2 w = U2, weights3 w = U3, weights4 w = U4, weights5 w = U5, weights6 w = U6, weights7 w = U7, weights8 w = U8
    pointwise
    rw [dif_neg (by omega)]
    rw [dif_neg (by omega)]
    rw [dif_pos (by omega)]
    exact congrArg (fun z => U2 (ix2 z o)) (Fin.ext (by show 512 + k.1 - 256 - 256 = k.1; omega))
  · refine Eq.trans ?_ (weights3_apply w k o)
    generalize weights0 w = U0, weights1 w = U1, weights2 w = U2, weights3 w = U3, weights4 w = U4, weights5 w = U5, weights6 w = U6, weights7 w = U7, weights8 w = U8
    pointwise
    rw [dif_neg (by omega)]
    rw [dif_neg (by omega)]
    rw [dif_neg (by omega)]
    rw [dif_pos (by omega)]
    exact congrArg (fun z => U3 (ix2 z o)) (Fin.ext (by show 768 + k.1 - 256 - 256 - 256 = k.1; omega))
  · refine Eq.trans ?_ (weights4_apply w k o)
    generalize weights0 w = U0, weights1 w = U1, weights2 w = U2, weights3 w = U3, weights4 w = U4, weights5 w = U5, weights6 w = U6, weights7 w = U7, weights8 w = U8
    pointwise
    rw [dif_neg (by omega)]
    rw [dif_neg (by omega)]
    rw [dif_neg (by omega)]
    rw [dif_neg (by omega)]
    rw [dif_pos (by omega)]
    exact congrArg (fun z => U4 (ix2 z o)) (Fin.ext (by show 1024 + k.1 - 256 - 256 - 256 - 256 = k.1; omega))
  · refine Eq.trans ?_ (weights5_apply w k o)
    generalize weights0 w = U0, weights1 w = U1, weights2 w = U2, weights3 w = U3, weights4 w = U4, weights5 w = U5, weights6 w = U6, weights7 w = U7, weights8 w = U8
    pointwise
    rw [dif_neg (by omega)]
    rw [dif_neg (by omega)]
    rw [dif_neg (by omega)]
    rw [dif_neg (by omega)]
    rw [dif_neg (by omega)]
    rw [dif_pos (by omega)]
    exact congrArg (fun z => U5 (ix2 z o)) (Fin.ext (by show 1280 + k.1 - 256 - 256 - 256 - 256 - 256 = k.1; omega))
  · refine Eq.trans ?_ (weights6_apply w k o)
    generalize weights0 w = U0, weights1 w = U1, weights2 w = U2, weights3 w = U3, weights4 w = U4, weights5 w = U5, weights6 w = U6, weights7 w = U7, weights8 w = U8
    pointwise
    rw [dif_neg (by omega)]
    rw [dif_neg (by omega)]
    rw [dif_neg (by omega)]
    rw [dif_neg (by omega)]
    rw [dif_neg (by omega)]
    rw [dif_neg (by omega)]
    rw [dif_pos (by omega)]
    exact congrArg (fun z => U6 (ix2 z o)) (Fin.ext (by show 1536 + k.1 - 256 - 256 - 256 - 256 - 256 - 256 = k.1; omega))
  · refine Eq.trans ?_ (weights7_apply w k o)
    generalize weights0 w = U0, weights1 w = U1, weights2 w = U2, weights3 w = U3, weights4 w = U4, weights5 w = U5, weights6 w = U6, weights7 w = U7, weights8 w = U8
    pointwise
    rw [dif_neg (by omega)]
    rw [dif_neg (by omega)]
    rw [dif_neg (by omega)]
    rw [dif_neg (by omega)]
    rw [dif_neg (by omega)]
    rw [dif_neg (by omega)]
    rw [dif_neg (by omega)]
    rw [dif_pos (by omega)]
    exact congrArg (fun z => U7 (ix2 z o)) (Fin.ext (by show 1792 + k.1 - 256 - 256 - 256 - 256 - 256 - 256 - 256 = k.1; omega))
  · refine Eq.trans ?_ (weights8_apply w k o)
    generalize weights0 w = U0, weights1 w = U1, weights2 w = U2, weights3 w = U3, weights4 w = U4, weights5 w = U5, weights6 w = U6, weights7 w = U7, weights8 w = U8
    pointwise
    rw [dif_neg (by omega)]
    rw [dif_neg (by omega)]
    rw [dif_neg (by omega)]
    rw [dif_neg (by omega)]
    rw [dif_neg (by omega)]
    rw [dif_neg (by omega)]
    rw [dif_neg (by omega)]
    rw [dif_neg (by omega)]
    exact congrArg (fun z => U8 (ix2 z o)) (Fin.ext (by show 2048 + k.1 - 256 - 256 - 256 - 256 - 256 - 256 - 256 - 256 = k.1; omega))

theorem slopes0_apply (w : FVec Ideal S36x256x1x1 .f32) (o : Fin 256) (a : Fin 9) : slopes0 w (ix2 o a) = w (ix4 ⟨a * 4 + 0, by omega⟩ o 0 0) := by
  unfold slopes0
  pointwise

theorem offsets0_apply (w : FVec Ideal S36 .f32) (a : Fin 9) : offsets0 w (ix1 a) = w (ix1 ⟨a * 4 + 0, by omega⟩) := by
  unfold offsets0
  pointwise

theorem slopes1_apply (w : FVec Ideal S36x256x1x1 .f32) (o : Fin 256) (a : Fin 9) : slopes1 w (ix2 o a) = w (ix4 ⟨a * 4 + 1, by omega⟩ o 0 0) := by
  unfold slopes1
  pointwise

theorem offsets1_apply (w : FVec Ideal S36 .f32) (a : Fin 9) : offsets1 w (ix1 a) = w (ix1 ⟨a * 4 + 1, by omega⟩) := by
  unfold offsets1
  pointwise

theorem slopes2_apply (w : FVec Ideal S36x256x1x1 .f32) (o : Fin 256) (a : Fin 9) : slopes2 w (ix2 o a) = w (ix4 ⟨a * 4 + 2, by omega⟩ o 0 0) := by
  unfold slopes2
  pointwise

theorem offsets2_apply (w : FVec Ideal S36 .f32) (a : Fin 9) : offsets2 w (ix1 a) = w (ix1 ⟨a * 4 + 2, by omega⟩) := by
  unfold offsets2
  pointwise

theorem slopes3_apply (w : FVec Ideal S36x256x1x1 .f32) (o : Fin 256) (a : Fin 9) : slopes3 w (ix2 o a) = w (ix4 ⟨a * 4 + 3, by omega⟩ o 0 0) := by
  unfold slopes3
  pointwise

theorem offsets3_apply (w : FVec Ideal S36 .f32) (a : Fin 9) : offsets3 w (ix1 a) = w (ix1 ⟨a * 4 + 3, by omega⟩) := by
  unfold offsets3
  pointwise

/-- The first nine columns are the class weights. -/
theorem classSlopes_apply (v : FVec Ideal S9x256x1x1 .f32) (w : FVec Ideal S36x256x1x1 .f32) (o : Fin 256) (a : Fin 9) :
    widened (slopes v w) (ix2 o ⟨a, by omega⟩) = v (ix4 a o 0 0) := by
  unfold widened slopes padZero classSlopes
  pointwise
  rw [dif_pos (by omega)]

/-- Then come nine columns for each coordinate. -/
theorem slopes_apply (v : FVec Ideal S9x256x1x1 .f32) (w : FVec Ideal S36x256x1x1 .f32) (j : Fin 4) (o : Fin 256) (a : Fin 9) :
    widened (slopes v w) (ix2 o ⟨9 * (j + 1) + a, by omega⟩) = w (ix4 ⟨a * 4 + j, by omega⟩ o 0 0) := by
  unfold widened slopes padZero
  fin_cases j
  · refine Eq.trans ?_ (slopes0_apply w o a)
    generalize slopes0 w = U0, slopes1 w = U1, slopes2 w = U2, slopes3 w = U3, classSlopes v = U
    pointwise
    rw [dif_pos (by omega)]
  · refine Eq.trans ?_ (slopes1_apply w o a)
    generalize slopes0 w = U0, slopes1 w = U1, slopes2 w = U2, slopes3 w = U3, classSlopes v = U
    pointwise
    rw [dif_pos (by omega)]
    rw [dif_neg (by omega)]
    rw [dif_neg (by omega)]
    rw [dif_pos (by omega)]
    exact congrArg (fun z => U1 (ix2 o z)) (Fin.ext (by show 18 + a.1 - 9 - 9 = a.1; omega))
  · refine Eq.trans ?_ (slopes2_apply w o a)
    generalize slopes0 w = U0, slopes1 w = U1, slopes2 w = U2, slopes3 w = U3, classSlopes v = U
    pointwise
    rw [dif_pos (by omega)]
    rw [dif_neg (by omega)]
    rw [dif_neg (by omega)]
    rw [dif_neg (by omega)]
    rw [dif_pos (by omega)]
    exact congrArg (fun z => U2 (ix2 o z)) (Fin.ext (by show 27 + a.1 - 9 - 9 - 9 = a.1; omega))
  · refine Eq.trans ?_ (slopes3_apply w o a)
    generalize slopes0 w = U0, slopes1 w = U1, slopes2 w = U2, slopes3 w = U3, classSlopes v = U
    pointwise
    rw [dif_pos (by omega)]
    rw [dif_neg (by omega)]
    rw [dif_neg (by omega)]
    rw [dif_neg (by omega)]
    rw [dif_neg (by omega)]
    exact congrArg (fun z => U3 (ix2 o z)) (Fin.ext (by show 36 + a.1 - 9 - 9 - 9 - 9 = a.1; omega))

/-- The first nine biases are the classes'. -/
theorem classOffsets_apply (v : FVec Ideal S9 .f32) (w : FVec Ideal S36 .f32) (a : Fin 9) :
    extended (offsets v w) (ix1 ⟨a, by omega⟩) = v (ix1 a) := by
  unfold extended offsets padZero
  pointwise
  rw [dif_pos (by omega)]

/-- Then come nine for each coordinate. -/
theorem offsets_apply (v : FVec Ideal S9 .f32) (w : FVec Ideal S36 .f32) (j : Fin 4) (a : Fin 9) :
    extended (offsets v w) (ix1 ⟨9 * (j + 1) + a, by omega⟩) = w (ix1 ⟨a * 4 + j, by omega⟩) := by
  unfold extended offsets padZero
  fin_cases j
  · refine Eq.trans ?_ (offsets0_apply w a)
    generalize offsets0 w = U0, offsets1 w = U1, offsets2 w = U2, offsets3 w = U3
    pointwise
    rw [dif_pos (by omega)]
  · refine Eq.trans ?_ (offsets1_apply w a)
    generalize offsets0 w = U0, offsets1 w = U1, offsets2 w = U2, offsets3 w = U3
    pointwise
    rw [dif_pos (by omega)]
    rw [dif_neg (by omega)]
    rw [dif_neg (by omega)]
    rw [dif_pos (by omega)]
    exact congrArg (fun z => U1 (ix1 z)) (Fin.ext (by show 18 + a.1 - 9 - 9 = a.1; omega))
  · refine Eq.trans ?_ (offsets2_apply w a)
    generalize offsets0 w = U0, offsets1 w = U1, offsets2 w = U2, offsets3 w = U3
    pointwise
    rw [dif_pos (by omega)]
    rw [dif_neg (by omega)]
    rw [dif_neg (by omega)]
    rw [dif_neg (by omega)]
    rw [dif_pos (by omega)]
    exact congrArg (fun z => U2 (ix1 z)) (Fin.ext (by show 27 + a.1 - 9 - 9 - 9 = a.1; omega))
  · refine Eq.trans ?_ (offsets3_apply w a)
    generalize offsets0 w = U0, offsets1 w = U1, offsets2 w = U2, offsets3 w = U3
    pointwise
    rw [dif_pos (by omega)]
    rw [dif_neg (by omega)]
    rw [dif_neg (by omega)]
    rw [dif_neg (by omega)]
    rw [dif_neg (by omega)]
    exact congrArg (fun z => U3 (ix1 z)) (Fin.ext (by show 36 + a.1 - 9 - 9 - 9 - 9 = a.1; omega))

/-- The floor division of every cell number by one number, as the program spells it. -/
def quotients (i : IVec S2504 32) (n : IVec S_ 32) : IVec S2504 32 :=
  select (andi (cmpi .ne (signi i) (broadcastInDim S2504 ![] bcast_S_S2504 (signi n)))
      (cmpi .ne (Host.remsi i (broadcastInDim S2504 ![] bcast_S_S2504 n)) (broadcastInDim S2504 ![] bcast_S_S2504 (constantI S_ 32 0#32))))
    (subi (Host.divsi i (broadcastInDim S2504 ![] bcast_S_S2504 n)) (broadcastInDim S2504 ![] bcast_S_S2504 (constantI S_ 32 1#32)))
    (Host.divsi i (broadcastInDim S2504 ![] bcast_S_S2504 n))

/-- The divisor, with zero replaced by one. -/
def divisor (n : IVec S_ 32) : IVec S_ 32 := select (cmpi .eq n (constantI S_ 32 0#32)) (constantI S_ 32 1#32) n

/-- The remainder of every cell number by one number, as the program spells it. -/
def remainders (i : IVec S2504 32) (n : IVec S_ 32) : IVec S2504 32 :=
  select (andi (cmpi .ne (cmpi .slt (Host.remsi i (broadcastInDim S2504 ![] bcast_S_S2504 (divisor n))) (broadcastInDim S2504 ![] bcast_S_S2504 (constantI S_ 32 0#32)))
        (broadcastInDim S2504 ![] bcast_S_S2504 (cmpi .slt (divisor n) (constantI S_ 32 0#32))))
      (cmpi .ne (Host.remsi i (broadcastInDim S2504 ![] bcast_S_S2504 (divisor n))) (broadcastInDim S2504 ![] bcast_S_S2504 (constantI S_ 32 0#32))))
    (addi (Host.remsi i (broadcastInDim S2504 ![] bcast_S_S2504 (divisor n))) (broadcastInDim S2504 ![] bcast_S_S2504 (divisor n)))
    (Host.remsi i (broadcastInDim S2504 ![] bcast_S_S2504 (divisor n)))

theorem quotients_apply (r : Fin 2504) : quotients (iotaInDim S2504 32 0) (constantI S_ 32 50#32) (ix1 r) = BitVec.ofNat 32 (r.1 / 50) := by
  unfold quotients
  pointwise
  revert r
  decide +kernel

theorem remainders_apply (r : Fin 2504) : remainders (iotaInDim S2504 32 0) (constantI S_ 32 50#32) (ix1 r) = BitVec.ofNat 32 (r.1 % 50) := by
  unfold remainders divisor
  pointwise
  revert r
  decide +kernel

theorem positions_apply (i : IVec S2504 32) (r : Fin 2504) : positions i (ix2 r 0)
    = (((((i (ix1 r)).toInt : ℤ) : ℝ) : EReal) + Ideal.ofBits .f32 1056964608#32) * Ideal.ofBits .f32 1098907648#32 := by
  unfold positions
  pointwise
  rfl

/-- A row that holds a pixel. -/
theorem lengthened_apply (x : FVec Ideal S2500x2304 .f32) (p : Fin 2500) (q : Fin 2304) : lengthened x (ix2 ⟨p, by omega⟩ q) = x (ix2 p q) := by
  unfold lengthened padZero
  pointwise

/-- Cell `r` lies at `r % 50` along the first axis. -/
theorem columns_apply (r : Fin 2504) : positions (remainders (iotaInDim S2504 32 0) (constantI S_ 32 50#32)) (ix2 r 0) = position (r.1 % 50) := by
  rw [positions_apply, remainders_apply]
  unfold position
  have h : (BitVec.ofNat 32 (r.1 % 50)).toInt = ((r.1 % 50 : ℕ) : ℤ) := by
    revert r
    decide +kernel
  rw [h]
  rfl

/-- Cell `r` lies at `r / 50` along the second axis. -/
theorem lines_apply (r : Fin 2504) : positions (quotients (iotaInDim S2504 32 0) (constantI S_ 32 50#32)) (ix2 r 0) = position (r.1 / 50) := by
  rw [positions_apply, quotients_apply]
  unfold position
  have h : (BitVec.ofNat 32 (r.1 / 50)).toInt = ((r.1 / 50 : ℕ) : ℤ) := by
    revert r
    decide +kernel
  rw [h]
  rfl

end Cert.KernelIdeal.Gen

end
-- ==== Proof.KernelEntry.lean ====
module

public import proofs.«01_k».proof.Proof.Gen.KernelIdeal.Frame
public import proofs.«01_k».proof.Proof.KernelOperands
public import Idealize.ShloMosaic.Lib.Pointwise

@[expose] public section

set_option maxRecDepth 16384

noncomputable section

/-! What the host operations before the head launch leave in its eight operands. -/

namespace Cert.KernelIdeal.Gen

open Cert.Head Idealize.ShloMosaic Idealize.ShloMosaic.TcCoe Idealize.ShloMosaic.Tactic

section Stretches
variable (V : Valuation τ sig (Elt Ideal))

theorem h_cst : StableHlo.after hostOps0 V (Proc.devRef .tc main_cst)
    = (fun i => Ideal.ofBits .f32 (lit0 (S8x16.rowMajor i)) : FVec Ideal S8x16 .f32) := by
  after_results
  rfl

theorem h_v1 : StableHlo.after hostOps0 V (Proc.devRef .tc main_v1)
    = shapeCast S50x50x256 (transpose S1x50x50x256 [0, 2, 3, 1] (V (Proc.devRef .tc main_arg1)) transposes_S1x256x50x50_S1x50x50x256_0_2_3_1) shapeCasts_S1x50x50x256_S50x50x256 := by
  after_results
  rfl

theorem h_c : StableHlo.after hostOps0 V (Proc.devRef .tc main_c)
    = constantI S_ 32 0#32 := by
  after_results

theorem h_1_v2 : StableHlo.after hostOps0_1 V (Proc.devRef .tc main_v2)
    = pad S52x52x256 ![1, 1, 0] ![1, 1, 0] ![0, 0, 0] (V (Proc.devRef .tc main_v1)) (sitofp (F := Ideal) .f32 (V (Proc.devRef .tc main_c)) : FVec Ideal S_ .f32) pads_S50x50x256_S52x52x256_110_110_000 h_S_ := by
  after_results
  rfl

theorem h_2_v21 : StableHlo.after hostOps0_2 V (Proc.devRef .tc main_v21)
    = patches (V (Proc.devRef .tc main_v2)) := by
  after_results
  rfl

theorem h_2_c_0 : StableHlo.after hostOps0_2 V (Proc.devRef .tc main_c_0)
    = constantI S_ 32 0#32 := by
  after_results

theorem h_3_v22 : StableHlo.after hostOps0_3 V (Proc.devRef .tc main_v22)
    = pad S2504x2304 ![0, 0] ![4, 0] ![0, 0] (V (Proc.devRef .tc main_v21)) (sitofp (F := Ideal) .f32 (V (Proc.devRef .tc main_c_0)) : FVec Ideal S_ .f32) pads_S2500x2304_S2504x2304_040_000 h_S_ := by
  after_results
  rfl

theorem h_4_v50 : StableHlo.after hostOps0_4 V (Proc.devRef .tc main_v50)
    = filters (V (Proc.devRef .tc main_arg2)) := by
  after_results
  rfl

theorem h_4_v66 : StableHlo.after hostOps0_4 V (Proc.devRef .tc main_v66)
    = slopes (V (Proc.devRef .tc main_arg4)) (V (Proc.devRef .tc main_arg6)) := by
  after_results
  rfl

theorem h_4_c_1 : StableHlo.after hostOps0_4 V (Proc.devRef .tc main_c_1)
    = constantI S_ 32 0#32 := by
  after_results

theorem h_5_v67 : StableHlo.after hostOps0_5 V (Proc.devRef .tc main_v67)
    = pad S256x48 ![0, 0] ![0, 3] ![0, 0] (V (Proc.devRef .tc main_v66)) (sitofp (F := Ideal) .f32 (V (Proc.devRef .tc main_c_1)) : FVec Ideal S_ .f32) pads_S256x45_S256x48_000_030 h_S_ := by
  after_results
  rfl

theorem h_6_v77 : StableHlo.after hostOps0_6 V (Proc.devRef .tc main_v77)
    = offsets (V (Proc.devRef .tc main_arg5)) (V (Proc.devRef .tc main_arg7)) := by
  after_results
  rfl

theorem h_6_c_2 : StableHlo.after hostOps0_6 V (Proc.devRef .tc main_c_2)
    = constantI S_ 32 0#32 := by
  after_results

theorem h_7_v78 : StableHlo.after hostOps0_7 V (Proc.devRef .tc main_v78)
    = pad S48 ![0] ![3] ![0] (V (Proc.devRef .tc main_v77)) (sitofp (F := Ideal) .f32 (V (Proc.devRef .tc main_c_2)) : FVec Ideal S_ .f32) pads_S45_S48_030 h_S_ := by
  after_results
  rfl

theorem h_8_v79 : StableHlo.after hostOps0_8 V (Proc.devRef .tc main_v79)
    = broadcastInDim S1x48 ![1] bcast_S48_S1x48_1 (V (Proc.devRef .tc main_v78)) := by
  after_results

theorem h_8_v80 : StableHlo.after hostOps0_8 V (Proc.devRef .tc main_v80)
    = broadcastInDim S1x256 ![1] bcast_S256_S1x256_1 (V (Proc.devRef .tc main_arg3)) := by
  after_results

theorem h_8_v81 : StableHlo.after hostOps0_8 V (Proc.devRef .tc main_v81)
    = (iotaInDim S2504 32 0 : IVec S2504 32) := by
  after_results

theorem h_8_c_3 : StableHlo.after hostOps0_8 V (Proc.devRef .tc main_c_3)
    = constantI S_ 32 50#32 := by
  after_results

theorem h_10_v83 : StableHlo.after hostOps0_10 V (Proc.devRef .tc main_v83)
    = (sitofp (F := Ideal) .f32 (V (Proc.devRef .tc main_v82)) : FVec Ideal S2504 .f32) := by
  after_results

theorem h_10_v84 : StableHlo.after hostOps0_10 V (Proc.devRef .tc main_v84)
    = (iotaInDim S2504 32 0 : IVec S2504 32) := by
  after_results

theorem h_10_c_4 : StableHlo.after hostOps0_10 V (Proc.devRef .tc main_c_4)
    = constantI S_ 32 50#32 := by
  after_results

theorem h_12_v91 : StableHlo.after hostOps0_12 V (Proc.devRef .tc main_v91)
    = positions (V (Proc.devRef .tc main_v85)) := by
  after_results
  rfl

theorem h_9_v82 : StableHlo.after hostOps0_9 V (Proc.devRef .tc main_v82)
    = quotients (V (Proc.devRef .tc main_v81)) (V (Proc.devRef .tc main_c_3)) := by
  after_results
  rfl

set_option maxHeartbeats 2000000 in
theorem h_11_v85 : StableHlo.after hostOps0_11 V (Proc.devRef .tc main_v85)
    = remainders (V (Proc.devRef .tc main_v84)) (V (Proc.devRef .tc main_c_4)) := by
  after_results
  rfl

theorem h_12_v96 : StableHlo.after hostOps0_12 V (Proc.devRef .tc main_v96)
    = broadcastInDim S2504x1 ![0] bcast_S2504_S2504x1_0
    (mulf (addf (V (Proc.devRef .tc main_v83)) (broadcastInDim S2504 ![] bcast_S_S2504 (constant (F := Ideal) S_ .f32 0x3F000000#32)))
      (broadcastInDim S2504 ![] bcast_S_S2504 (constant (F := Ideal) S_ .f32 0x41800000#32))) := by
  after_results

end Stretches
section Entry

variable (m : (ℓ : Loc nD τ sig) → Buf (Elt Ideal) ℓ) (ρ : Dev nD → PrngReg) (c : Dev nD)

theorem w3_v21 : W3 m ρ c (Proc.devRef .tc main_v21) = patches (bordered (m ((c : Thread nD τ).loc main_arg1))) := by
  refine (h_2_v21 (W2 m ρ c)).trans (congrArg patches ((h_1_v2 (W1 m ρ c)).trans ?_))
  rw [show W1 m ρ c (Proc.devRef .tc main_v1) = _ from h_v1 (W0 m ρ c), show W1 m ρ c (Proc.devRef .tc main_c) = _ from h_c (W0 m ρ c), W0_args m ρ c main_arg1 (by decide)]
  rfl

/-- The pixels. -/
theorem w13_v22 : W13 m ρ c (Proc.devRef .tc main_v22) = lengthened (patches (bordered (m ((c : Thread nD τ).loc main_arg1)))) := by
  refine ((W13_of m ρ c main_v22 (by decide +kernel)).trans ((W12_of m ρ c main_v22 (by decide +kernel)).trans ((W11_of m ρ c main_v22 (by decide +kernel)).trans ((W10_of m ρ c main_v22 (by decide +kernel)).trans ((W9_of m ρ c main_v22 (by decide +kernel)).trans ((W8_of m ρ c main_v22 (by decide +kernel)).trans ((W7_of m ρ c main_v22 (by decide +kernel)).trans ((W6_of m ρ c main_v22 (by decide +kernel)).trans (W5_of m ρ c main_v22 (by decide +kernel)))))))))).trans ((h_3_v22 (W3 m ρ c)).trans ?_)
  rw [w3_v21, show W3 m ρ c (Proc.devRef .tc main_c_0) = _ from h_2_c_0 (W2 m ρ c)]
  rfl

/-- The filters. -/
theorem w13_v50 : W13 m ρ c (Proc.devRef .tc main_v50) = filters (m ((c : Thread nD τ).loc main_arg2)) := by
  refine ((W13_of m ρ c main_v50 (by decide +kernel)).trans ((W12_of m ρ c main_v50 (by decide +kernel)).trans ((W11_of m ρ c main_v50 (by decide +kernel)).trans ((W10_of m ρ c main_v50 (by decide +kernel)).trans ((W9_of m ρ c main_v50 (by decide +kernel)).trans ((W8_of m ρ c main_v50 (by decide +kernel)).trans ((W7_of m ρ c main_v50 (by decide +kernel)).trans (W6_of m ρ c main_v50 (by decide +kernel))))))))).trans ((h_4_v50 (W4 m ρ c)).trans ?_)
  rw [W4_args m ρ c main_arg2 (by decide)]

/-- The weights of the logits. -/
theorem w13_v67 : W13 m ρ c (Proc.devRef .tc main_v67) = widened (slopes (m ((c : Thread nD τ).loc main_arg4)) (m ((c : Thread nD τ).loc main_arg6))) := by
  refine ((W13_of m ρ c main_v67 (by decide +kernel)).trans ((W12_of m ρ c main_v67 (by decide +kernel)).trans ((W11_of m ρ c main_v67 (by decide +kernel)).trans ((W10_of m ρ c main_v67 (by decide +kernel)).trans ((W9_of m ρ c main_v67 (by decide +kernel)).trans ((W8_of m ρ c main_v67 (by decide +kernel)).trans (W7_of m ρ c main_v67 (by decide +kernel)))))))).trans ((h_5_v67 (W5 m ρ c)).trans ?_)
  rw [show W5 m ρ c (Proc.devRef .tc main_v66) = _ from h_4_v66 (W4 m ρ c), show W5 m ρ c (Proc.devRef .tc main_c_1) = _ from h_4_c_1 (W4 m ρ c), W4_args m ρ c main_arg4 (by decide), W4_args m ρ c main_arg6 (by decide)]
  rfl

/-- The biases of the logits. -/
theorem w13_v79 : W13 m ρ c (Proc.devRef .tc main_v79) = broadcastInDim S1x48 ![1] bcast_S48_S1x48_1 (extended (offsets (m ((c : Thread nD τ).loc main_arg5)) (m ((c : Thread nD τ).loc main_arg7)))) := by
  refine ((W13_of m ρ c main_v79 (by decide +kernel)).trans ((W12_of m ρ c main_v79 (by decide +kernel)).trans ((W11_of m ρ c main_v79 (by decide +kernel)).trans (W10_of m ρ c main_v79 (by decide +kernel))))).trans ((h_8_v79 (W8 m ρ c)).trans (congrArg _ ((h_7_v78 (W7 m ρ c)).trans ?_)))
  rw [show W7 m ρ c (Proc.devRef .tc main_v77) = _ from h_6_v77 (W6 m ρ c), show W7 m ρ c (Proc.devRef .tc main_c_2) = _ from h_6_c_2 (W6 m ρ c), W6_args m ρ c main_arg5 (by decide), W6_args m ρ c main_arg7 (by decide)]
  rfl

/-- The biases of the hidden layer. -/
theorem w13_v80 : W13 m ρ c (Proc.devRef .tc main_v80) = broadcastInDim S1x256 ![1] bcast_S256_S1x256_1 (m ((c : Thread nD τ).loc main_arg3)) := by
  refine ((W13_of m ρ c main_v80 (by decide +kernel)).trans ((W12_of m ρ c main_v80 (by decide +kernel)).trans ((W11_of m ρ c main_v80 (by decide +kernel)).trans (W10_of m ρ c main_v80 (by decide +kernel))))).trans ((h_8_v80 (W8 m ρ c)).trans ?_)
  rw [W8_args m ρ c main_arg3 (by decide)]

theorem w11_v83 : W11 m ρ c (Proc.devRef .tc main_v83) = (sitofp (F := Ideal) .f32 (quotients (iotaInDim S2504 32 0) (constantI S_ 32 50#32)) : FVec Ideal S2504 .f32) := by
  refine (h_10_v83 (W10 m ρ c)).trans (congrArg (sitofp (F := Ideal) .f32) ((h_9_v82 (W9 m ρ c)).trans ?_))
  rw [show W9 m ρ c (Proc.devRef .tc main_v81) = _ from h_8_v81 (W8 m ρ c), show W9 m ρ c (Proc.devRef .tc main_c_3) = _ from h_8_c_3 (W8 m ρ c)]

/-- The positions along the second axis. -/
theorem w13_v96 : W13 m ρ c (Proc.devRef .tc main_v96) = positions (quotients (iotaInDim S2504 32 0) (constantI S_ 32 50#32)) := by
  refine (h_12_v96 (W12 m ρ c)).trans ?_
  rw [show W12 m ρ c (Proc.devRef .tc main_v83) = _ from (W12_of m ρ c main_v83 (by decide +kernel)).trans (w11_v83 m ρ c)]
  rfl

/-- The positions along the first axis. -/
theorem w13_v91 : W13 m ρ c (Proc.devRef .tc main_v91) = positions (remainders (iotaInDim S2504 32 0) (constantI S_ 32 50#32)) := by
  refine (h_12_v91 (W12 m ρ c)).trans (congrArg positions ((h_11_v85 (W11 m ρ c)).trans ?_))
  rw [show W11 m ρ c (Proc.devRef .tc main_v84) = _ from h_10_v84 (W10 m ρ c), show W11 m ρ c (Proc.devRef .tc main_c_4) = _ from h_10_c_4 (W10 m ρ c)]

/-- The table of anchors at the origin. -/
theorem w13_cst : W13 m ρ c (Proc.devRef .tc main_cst) = (fun i => Ideal.ofBits .f32 (lit0 (S8x16.rowMajor i)) : FVec Ideal S8x16 .f32) :=
  ((W13_of m ρ c main_cst (by decide +kernel)).trans ((W12_of m ρ c main_cst (by decide +kernel)).trans ((W11_of m ρ c main_cst (by decide +kernel)).trans ((W10_of m ρ c main_cst (by decide +kernel)).trans ((W9_of m ρ c main_cst (by decide +kernel)).trans ((W8_of m ρ c main_cst (by decide +kernel)).trans ((W7_of m ρ c main_cst (by decide +kernel)).trans ((W6_of m ρ c main_cst (by decide +kernel)).trans ((W5_of m ρ c main_cst (by decide +kernel)).trans ((W4_of m ρ c main_cst (by decide +kernel)).trans ((W3_of m ρ c main_cst (by decide +kernel)).trans (W2_of m ρ c main_cst (by decide +kernel))))))))))))).trans (h_cst (W0 m ρ c))

end Entry

end Cert.KernelIdeal.Gen

end
-- ==== Proof.KernelHead.lean ====
module

public import proofs.«01_k».proof.Proof.Gen.KernelIdeal.Frame
public import proofs.«01_k».proof.Proof.HeadSpec
public import Idealize.ShloMosaic.Lib.Pointwise

@[expose] public section

set_option maxRecDepth 16384

noncomputable section

/-! What the head launch computes, entry by entry, from its eight operands. -/

namespace Cert.KernelIdeal.Gen

open Cert.Head Idealize.ShloMosaic Idealize.ShloMosaic.TcCoe Idealize.ShloMosaic.Tactic

variable (x0 : Vec Ideal S2504x2304 .f32) (x1 : Vec Ideal S2304x256 .f32) (x2 : Vec Ideal S1x256 .f32)
  (x3 : Vec Ideal S256x48 .f32) (x4 : Vec Ideal S1x48 .f32) (x5 : Vec Ideal S2504x1 .f32) (x6 : Vec Ideal S2504x1 .f32)
  (x7 : Vec Ideal S8x16 .f32)

theorem corner_zero : (![0, 0] : Fin 2 → ℕ) = fun _ => 0 := by
  funext a
  fin_cases a <;> rfl

/-- A logit of row `r`: the pixels under the nine taps lie side by side in the row. -/
theorem logits_apply (r : Fin 2504) (q : Fin 48) : k0_pay23 x0 x1 x2 x3 x4 x5 x6 x7 (ix2 r q)
    = logit (fun o => x3 (ix2 o q)) (fun o => feature (fun t k => x1 (ix2 ⟨256 * t + k, by omega⟩ o))
        (fun t k => x0 (ix2 r ⟨256 * t + k, by omega⟩)) (x2 (ix2 0 o))) (x4 (ix2 0 q)) := by
  unfold k0_pay23 k0_pay22 k0_pay21 k0_pay4 k0_pay3 k0_pay2 logit feature tap
  pointwise
  refine congrArg (· + _) (Finset.sum_congr rfl fun o _ => ?_)
  rw [mul_comm (x3 _)]
  simp only [mul_comm (x0 _)]

/-- The score. -/
theorem score_apply (r : Fin 2504) (q : Fin 9) : out0_8 x0 x1 x2 x3 x4 x5 x6 x7 (ix2 r q)
    = scoreOf (k0_pay23 x0 x1 x2 x3 x4 x5 x6 x7 (ix2 r ⟨q, by omega⟩)) := by
  unfold out0_8 scoreOf
  rw [View.canon_unit_zero corner_zero]
  unfold k0_pay5 k0_pay1 k0_pay20 k0_pay23
  pointwise
  rw [zero_sub]

/-- The left edge. -/
theorem left_apply (r : Fin 2504) (q : Fin 9) : out0_9 x0 x1 x2 x3 x4 x5 x6 x7 (ix2 r q)
    = low (k0_pay23 x0 x1 x2 x3 x4 x5 x6 x7 (ix2 r ⟨9 + q, by omega⟩)) (k0_pay23 x0 x1 x2 x3 x4 x5 x6 x7 (ix2 r ⟨27 + q, by omega⟩))
        (x5 (ix2 r 0)) (x7 (ix2 0 ⟨q, by omega⟩)) (x7 (ix2 2 ⟨q, by omega⟩)) := by
  unfold out0_9 k0_pay26 k0_pay24 low clip centre halfExtent
  rw [View.canon_unit_zero corner_zero]
  generalize k0_pay23 x0 x1 x2 x3 x4 x5 x6 x7 = H
  unfold k0_pay16 k0_pay14 k0_pay12 k0_pay10 k0_pay8 k0_pay6
  pointwise

/-- The top edge. -/
theorem top_apply (r : Fin 2504) (q : Fin 9) : out0_10 x0 x1 x2 x3 x4 x5 x6 x7 (ix2 r q)
    = low (k0_pay23 x0 x1 x2 x3 x4 x5 x6 x7 (ix2 r ⟨18 + q, by omega⟩)) (k0_pay23 x0 x1 x2 x3 x4 x5 x6 x7 (ix2 r ⟨36 + q, by omega⟩))
        (x6 (ix2 r 0)) (x7 (ix2 1 ⟨q, by omega⟩)) (x7 (ix2 3 ⟨q, by omega⟩)) := by
  unfold out0_10 k0_pay27 k0_pay25 low clip centre halfExtent
  rw [View.canon_unit_zero corner_zero]
  generalize k0_pay23 x0 x1 x2 x3 x4 x5 x6 x7 = H
  unfold k0_pay17 k0_pay15 k0_pay13 k0_pay11 k0_pay9 k0_pay7
  pointwise

/-- The right edge. -/
theorem right_apply (r : Fin 2504) (q : Fin 9) : out0_11 x0 x1 x2 x3 x4 x5 x6 x7 (ix2 r q)
    = high (k0_pay23 x0 x1 x2 x3 x4 x5 x6 x7 (ix2 r ⟨9 + q, by omega⟩)) (k0_pay23 x0 x1 x2 x3 x4 x5 x6 x7 (ix2 r ⟨27 + q, by omega⟩))
        (x5 (ix2 r 0)) (x7 (ix2 0 ⟨q, by omega⟩)) (x7 (ix2 2 ⟨q, by omega⟩)) := by
  unfold out0_11 k0_pay26 k0_pay24 high clip centre halfExtent
  rw [View.canon_unit_zero corner_zero]
  generalize k0_pay23 x0 x1 x2 x3 x4 x5 x6 x7 = H
  unfold k0_pay18 k0_pay14 k0_pay12 k0_pay10 k0_pay8 k0_pay6
  pointwise

/-- The bottom edge. -/
theorem bottom_apply (r : Fin 2504) (q : Fin 9) : out0_12 x0 x1 x2 x3 x4 x5 x6 x7 (ix2 r q)
    = high (k0_pay23 x0 x1 x2 x3 x4 x5 x6 x7 (ix2 r ⟨18 + q, by omega⟩)) (k0_pay23 x0 x1 x2 x3 x4 x5 x6 x7 (ix2 r ⟨36 + q, by omega⟩))
        (x6 (ix2 r 0)) (x7 (ix2 1 ⟨q, by omega⟩)) (x7 (ix2 3 ⟨q, by omega⟩)) := by
  unfold out0_12 k0_pay27 k0_pay25 high clip centre halfExtent
  rw [View.canon_unit_zero corner_zero]
  generalize k0_pay23 x0 x1 x2 x3 x4 x5 x6 x7 = H
  unfold k0_pay19 k0_pay15 k0_pay13 k0_pay11 k0_pay9 k0_pay7
  pointwise

end Cert.KernelIdeal.Gen

end
-- ==== Proof.KernelNms.lean ====
module

public import proofs.«01_k».proof.Proof.Gen.KernelIdeal.Frame
public import Idealize.ShloMosaic.Lib.Pointwise

@[expose] public section

set_option maxRecDepth 16384

noncomputable section

namespace Cert.KernelIdeal.Gen

open Idealize.ShloMosaic Idealize.ShloMosaic.TcCoe Idealize.ShloMosaic.Tactic

/-- One row of a `47 × 128` array, as trip `k` of the suppression loop loads it. -/
abbrev rowAt (x : Vec Ideal S47x128 .f32) (k : Fin k1_t1_loop.trips) : Vec Ideal S1x128 .f32 :=
  View.ld x (Rect.unit (s := S47x128) (k1_off1 k) S1x128.size (k1_off1_inb k))

/-- What trip `k` of the suppression loop stores, from the four coordinate arrays and the flags it finds. -/
def nmsTrip (x0 x1 x2 x3 : Vec Ideal S47x128 .f32) (k : Fin k1_t1_loop.trips) (s : Vec Ideal S47x128 .f32) :
    Vec Ideal S47x128 .f32 :=
  k1_pay16 (Scf.iv 0#32 1#32 k)
    (k1_pay7 (k1_pay1 (iota .tc S1x128 32 [1] iota_S1x128_d1_w32) 0#32 1#32 k) (rowAt s k))
    (k1_pay8 (k1_pay10 x0) (k1_pay11 x1) (k1_pay12 x2) (k1_pay13 x3)
      (k1_pay1 (iota .tc S1x128 32 [1] iota_S1x128_d1_w32) 0#32 1#32 k)
      (k1_pay2 (iota .tc S1x128 32 [1] iota_S1x128_d1_w32) 0#32 1#32 k (rowAt x0 k))
      (k1_pay3 (iota .tc S1x128 32 [1] iota_S1x128_d1_w32) 0#32 1#32 k (rowAt x1 k)) (rowAt x2 k) (rowAt x3 k))
    (k1_pay9 (k1_pay14 x0 x1 x2 x3)
      (k1_pay1 (iota .tc S1x128 32 [1] iota_S1x128_d1_w32) 0#32 1#32 k)
      (k1_pay2 (iota .tc S1x128 32 [1] iota_S1x128_d1_w32) 0#32 1#32 k (rowAt x0 k))
      (k1_pay3 (iota .tc S1x128 32 [1] iota_S1x128_d1_w32) 0#32 1#32 k (rowAt x1 k)) (rowAt x2 k) (rowAt x3 k))
    s

/-- The flags after `n` trips: zeros, then one trip after another. -/
def nmsState (x0 x1 x2 x3 : Vec Ideal S47x128 .f32) : ℕ → Vec Ideal S47x128 .f32
  | 0 => k1_pay15 (F := Ideal)
  | n + 1 => if h : n < k1_t1_loop.trips then nmsTrip x0 x1 x2 x3 ⟨n, h⟩ (nmsState x0 x1 x2 x3 n)
      else nmsState x0 x1 x2 x3 n

/-- The offsets of a whole access are zero. -/
theorem offs_zero : (![0, 0] : Fin S47x128.rank → ℕ) = fun _ => 0 := by
  funext a; exact Fin.cases rfl (fun b => Fin.cases rfl (fun d => d.elim0) b) a

/-- A store of the whole array leaves its payload, whatever was stored before. -/
theorem read_writes_whole (arg : Memref sig .tc .vmem S47x128 .f32) (f : BufTy.Contents (Elt Ideal) arg.view.ty)
    (w : Vec Ideal S47x128 .f32) (L : List (View.Piece (Elt Ideal) S47x128 .f32)) :
    arg.view.read (Elt Ideal) (arg.view.writes (Elt Ideal) f
      ((⟨Rect.unit ![0, 0] ![47, 128] inb_S47x128_S47x128_0_0, w⟩ : View.Piece (Elt Ideal) S47x128 .f32) :: L)) = w := by
  rw [View.read_writes_eq_canon, View.canon_cons_unit_zero offs_zero]
  intro y
  exact ⟨_, List.mem_cons_self .., View.mem_set_unit_zero offs_zero inb_S47x128_S47x128_0_0 y⟩

/-- Trip `k` stores one array, the whole of it, which is `nmsTrip` of what the memory holds. -/
theorem tripL_eq (c : Dev nD) (arg0 : Memref sig .tc .vmem S47x128 .f32) (harg0 : arg0.IsWhole) (arg1 : Memref sig .tc .vmem S47x128 .f32) (harg1 : arg1.IsWhole) (arg2 : Memref sig .tc .vmem S47x128 .f32) (harg2 : arg2.IsWhole) (arg3 : Memref sig .tc .vmem S47x128 .f32) (harg3 : arg3.IsWhole) (arg4 : Memref sig .tc .vmem S47x128 .f32) (harg4 : arg4.IsWhole) (arg5 : Memref sig .tc .vmem S47x128 .f32) (harg5 : arg5.IsWhole) (arg6 : Memref sig .tc .vmem S47x128 .f32) (harg6 : arg6.IsWhole)
    (x0 x1 x2 x3 : Vec Ideal S47x128 .f32) (k : Fin k1_t1_loop.trips) (f : BufTy.Contents (Elt Ideal) arg6.view.ty) :
    tripL_k1_t1 Variants.none c none arg0 harg0 arg1 harg1 arg2 harg2 arg3 harg3 arg4 harg4 arg5 harg5 arg6 harg6 x0 x1 x2 x3 (iota .tc S1x128 32 [1] iota_S1x128_d1_w32)
      (harg0.unread x0) (harg1.unread x1) (harg2.unread x2) (harg3.unread x3) k f
    = [⟨Rect.unit ![0, 0] ![47, 128] inb_S47x128_S47x128_0_0,
        nmsTrip x0 x1 x2 x3 k (arg6.view.read (Elt Ideal) f)⟩] := by
  have e0 : arg0.view.readAt (Elt Ideal) (Rect.unit (s := S47x128) (k1_off1 k) S1x128.size (k1_off1_inb k)).toLoadRect (harg0.unread x0) = rowAt x0 k := by
    rw [View.readAt_eq_ld, harg0.read_unread]
  have e1 : arg1.view.readAt (Elt Ideal) (Rect.unit (s := S47x128) (k1_off1 k) S1x128.size (k1_off1_inb k)).toLoadRect (harg1.unread x1) = rowAt x1 k := by
    rw [View.readAt_eq_ld, harg1.read_unread]
  have e2 : arg2.view.readAt (Elt Ideal) (Rect.unit (s := S47x128) (k1_off1 k) S1x128.size (k1_off1_inb k)).toLoadRect (harg2.unread x2) = rowAt x2 k := by
    rw [View.readAt_eq_ld, harg2.read_unread]
  have e3 : arg3.view.readAt (Elt Ideal) (Rect.unit (s := S47x128) (k1_off1 k) S1x128.size (k1_off1_inb k)).toLoadRect (harg3.unread x3) = rowAt x3 k := by
    rw [View.readAt_eq_ld, harg3.read_unread]
  have e6 : arg6.view.readAt (Elt Ideal) (Rect.unit (s := S47x128) (k1_off1 k) S1x128.size (k1_off1_inb k)).toLoadRect f = rowAt (arg6.view.read (Elt Ideal) f) k := by
    rw [View.readAt_eq_ld]
  have e7 : arg6.view.readAt (Elt Ideal) (Rect.unit (s := S47x128) ![0, 0] ![47, 128] inb_S47x128_S47x128_0_0).toLoadRect f = arg6.view.read (Elt Ideal) f := by
    rw [View.readAt_eq_ld, View.ld_unit_zero offs_zero]
  unfold nmsTrip
  rw [← e0, ← e1, ← e2, ← e3, ← e6]
  conv_rhs => rw [← e7]
  unfold tripL_k1_t1 trip_k1_t1
  dsimp only
  sl_unfold_words
  rfl

/-- After `n` trips the flags buffer reads `nmsState … n`. -/
theorem read_pb (c : Dev nD) (arg0 : Memref sig .tc .vmem S47x128 .f32) (harg0 : arg0.IsWhole) (arg1 : Memref sig .tc .vmem S47x128 .f32) (harg1 : arg1.IsWhole) (arg2 : Memref sig .tc .vmem S47x128 .f32) (harg2 : arg2.IsWhole) (arg3 : Memref sig .tc .vmem S47x128 .f32) (harg3 : arg3.IsWhole) (arg4 : Memref sig .tc .vmem S47x128 .f32) (harg4 : arg4.IsWhole) (arg5 : Memref sig .tc .vmem S47x128 .f32) (harg5 : arg5.IsWhole) (arg6 : Memref sig .tc .vmem S47x128 .f32) (harg6 : arg6.IsWhole)
    (x0 x1 x2 x3 : Vec Ideal S47x128 .f32) (G : BufTy.Contents (Elt Ideal) arg6.view.ty)
    (hG : arg6.view.read (Elt Ideal) G = k1_pay15 (F := Ideal)) (n : ℕ) (hn : n ≤ k1_t1_loop.trips) :
    arg6.view.read (Elt Ideal) (arg6.view.writes (Elt Ideal) G
      (pb_k1_t1 Variants.none c none arg0 harg0 arg1 harg1 arg2 harg2 arg3 harg3 arg4 harg4 arg5 harg5 arg6 harg6 x0 x1 x2 x3 (iota .tc S1x128 32 [1] iota_S1x128_d1_w32)
        (harg0.unread x0) (harg1.unread x1) (harg2.unread x2) (harg3.unread x3) G n)) = nmsState x0 x1 x2 x3 n := by
  induction n with
  | zero => exact hG
  | succ n ih =>
    have hs := pb_k1_t1_succ (F := Ideal) Variants.none c none arg0 harg0 arg1 harg1 arg2 harg2 arg3 harg3 arg4 harg4 arg5 harg5 arg6 harg6 x0 x1 x2 x3 (iota .tc S1x128 32 [1] iota_S1x128_d1_w32)
        (harg0.unread x0) (harg1.unread x1) (harg2.unread x2) (harg3.unread x3) G ⟨n, hn⟩
    dsimp only at hs
    rw [hs, tripL_eq, List.singleton_append, read_writes_whole, ih (by omega)]
    have hlt : n < k1_t1_loop.trips := hn
    conv_rhs => rw [nmsState]
    split
    · rfl
    · contradiction

set_option maxHeartbeats 2000000 in
/-- What the suppression kernel's body leaves in its output: the scores masked by the flags after all trips. -/
theorem out1_eq (c : Dev nD) (arg0 : Memref sig .tc .vmem S47x128 .f32) (harg0 : arg0.IsWhole) (arg1 : Memref sig .tc .vmem S47x128 .f32) (harg1 : arg1.IsWhole) (arg2 : Memref sig .tc .vmem S47x128 .f32) (harg2 : arg2.IsWhole) (arg3 : Memref sig .tc .vmem S47x128 .f32) (harg3 : arg3.IsWhole) (arg4 : Memref sig .tc .vmem S47x128 .f32) (harg4 : arg4.IsWhole) (arg5 : Memref sig .tc .vmem S47x128 .f32) (harg5 : arg5.IsWhole) (arg6 : Memref sig .tc .vmem S47x128 .f32) (harg6 : arg6.IsWhole)
    (x0 x1 x2 x3 x4 : Vec Ideal S47x128 .f32) :
    out1_A_5 c arg0 harg0 arg1 harg1 arg2 harg2 arg3 harg3 arg4 harg4 arg5 harg5 arg6 harg6 x0 x1 x2 x3 x4 = k1_pay17 (nmsState x0 x1 x2 x3 k1_t1_loop.trips) x4 := by
  unfold out1_A_5 kernelRun1_A
  dsimp only
  sl_unfold_words
  rw [View.read_writes_eq_canon _ _ _ (fun y => ⟨_, List.mem_singleton_self _, View.mem_set_unit_zero offs_zero inb_S47x128_S47x128_0_0 y⟩),
    View.canon_unit_zero offs_zero]
  have e0 : arg0.view.readAt (Elt Ideal) (Rect.unit (s := S47x128) ![0, 0] S47x128.size inb_S47x128_S47x128_0_0).toLoadRect (harg0.unread x0) = x0 := by
    rw [View.readAt_eq_ld, harg0.read_unread, View.ld_unit_zero offs_zero]
  have e1 : arg1.view.readAt (Elt Ideal) (Rect.unit (s := S47x128) ![0, 0] S47x128.size inb_S47x128_S47x128_0_0).toLoadRect (harg1.unread x1) = x1 := by
    rw [View.readAt_eq_ld, harg1.read_unread, View.ld_unit_zero offs_zero]
  have e2 : arg2.view.readAt (Elt Ideal) (Rect.unit (s := S47x128) ![0, 0] S47x128.size inb_S47x128_S47x128_0_0).toLoadRect (harg2.unread x2) = x2 := by
    rw [View.readAt_eq_ld, harg2.read_unread, View.ld_unit_zero offs_zero]
  have e3 : arg3.view.readAt (Elt Ideal) (Rect.unit (s := S47x128) ![0, 0] S47x128.size inb_S47x128_S47x128_0_0).toLoadRect (harg3.unread x3) = x3 := by
    rw [View.readAt_eq_ld, harg3.read_unread, View.ld_unit_zero offs_zero]
  have e4 : arg4.view.readAt (Elt Ideal) (Rect.unit (s := S47x128) ![0, 0] S47x128.size inb_S47x128_S47x128_0_0).toLoadRect (harg4.unread x4) = x4 := by
    rw [View.readAt_eq_ld, harg4.read_unread, View.ld_unit_zero offs_zero]
  simp only [e0, e1, e2, e3, e4]
  refine congrArg (fun s => k1_pay17 s x4) ?_
  have hdef : ∀ (L : List (View.Piece (Elt Ideal) S47x128 .f32)), arg6.view.readCov L
      (Rect.unit (s := S47x128) ![0, 0] S47x128.size inb_S47x128_S47x128_0_0).toLoadRect
      = arg6.view.read (Elt Ideal) (arg6.view.writes (Elt Ideal) arg6.view.junk L) := fun L => by
    show View.ld (arg6.view.read (Elt Ideal) (arg6.view.writes (Elt Ideal) arg6.view.junk L)) _ = _
    rw [View.ld_unit_zero offs_zero]
  rw [hdef, View.writes_append]
  exact read_pb c arg0 harg0 arg1 harg1 arg2 harg2 arg3 harg3 arg4 harg4 arg5 harg5 arg6 harg6 x0 x1 x2 x3 _ (read_writes_whole arg6 _ _ []) _ le_rfl

end Cert.KernelIdeal.Gen
end
-- ==== Proof.KernelRegions.lean ====
module

public import proofs.«01_k».proof.Proof.KernelNms
public import Idealize.ShloMosaic.Lib.Pointwise
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic

variable (V : (c : Dev nD) → (b : Ref sig .tc) → Buf (Elt Ideal) ((c : Thread nD τ).loc b))

/-- Window 0 of launch 1 has one block, at the origin. -/
theorem origin1_0 : ∀ t : Fin grid1.N, win1_0.index t 0 = 0 ∧ win1_0.index t 1 = 0 := by
  decide +kernel

/-- Operand 0 of launch 1 is passed whole. -/
theorem block1_0 (c : Dev nD) (t : Fin cfg1.N) : iblk1 (F := Ideal) V c 0 t = V c main_v123 := by
  have h := origin1_0 t
  funext y
  blk_ext [iblk1, h.1, h.2]

/-- Window 1 of launch 1 has one block, at the origin. -/
theorem origin1_1 : ∀ t : Fin grid1.N, win1_1.index t 0 = 0 ∧ win1_1.index t 1 = 0 := by
  decide +kernel

/-- Operand 1 of launch 1 is passed whole. -/
theorem block1_1 (c : Dev nD) (t : Fin cfg1.N) : iblk1 (F := Ideal) V c 1 t = V c main_v127 := by
  have h := origin1_1 t
  funext y
  blk_ext [iblk1, h.1, h.2]

/-- Window 2 of launch 1 has one block, at the origin. -/
theorem origin1_2 : ∀ t : Fin grid1.N, win1_2.index t 0 = 0 ∧ win1_2.index t 1 = 0 := by
  decide +kernel

/-- Operand 2 of launch 1 is passed whole. -/
theorem block1_2 (c : Dev nD) (t : Fin cfg1.N) : iblk1 (F := Ideal) V c 2 t = V c main_v131 := by
  have h := origin1_2 t
  funext y
  blk_ext [iblk1, h.1, h.2]

/-- Window 3 of launch 1 has one block, at the origin. -/
theorem origin1_3 : ∀ t : Fin grid1.N, win1_3.index t 0 = 0 ∧ win1_3.index t 1 = 0 := by
  decide +kernel

/-- Operand 3 of launch 1 is passed whole. -/
theorem block1_3 (c : Dev nD) (t : Fin cfg1.N) : iblk1 (F := Ideal) V c 3 t = V c main_v135 := by
  have h := origin1_3 t
  funext y
  blk_ext [iblk1, h.1, h.2]

/-- Window 4 of launch 1 has one block, at the origin. -/
theorem origin1_4 : ∀ t : Fin grid1.N, win1_4.index t 0 = 0 ∧ win1_4.index t 1 = 0 := by
  decide +kernel

/-- Operand 4 of launch 1 is passed whole. -/
theorem block1_4 (c : Dev nD) (t : Fin cfg1.N) : iblk1 (F := Ideal) V c 4 t = V c main_v137 := by
  have h := origin1_4 t
  funext y
  blk_ext [iblk1, h.1, h.2]

/-- Window 0 of launch 0 has one block, at the origin. -/
theorem origin0_0 : ∀ t : Fin grid0.N, win0_0.index t 0 = 0 ∧ win0_0.index t 1 = 0 := by
  decide +kernel

/-- Operand 0 of launch 0 is passed whole. -/
theorem block0_0 (c : Dev nD) (t : Fin cfg0.N) : iblk0 (F := Ideal) V c 0 t = V c main_v22 := by
  have h := origin0_0 t
  funext y
  blk_ext [iblk0, h.1, h.2]

/-- Window 1 of launch 0 has one block, at the origin. -/
theorem origin0_1 : ∀ t : Fin grid0.N, win0_1.index t 0 = 0 ∧ win0_1.index t 1 = 0 := by
  decide +kernel

/-- Operand 1 of launch 0 is passed whole. -/
theorem block0_1 (c : Dev nD) (t : Fin cfg0.N) : iblk0 (F := Ideal) V c 1 t = V c main_v50 := by
  have h := origin0_1 t
  funext y
  blk_ext [iblk0, h.1, h.2]

/-- Window 2 of launch 0 has one block, at the origin. -/
theorem origin0_2 : ∀ t : Fin grid0.N, win0_2.index t 0 = 0 ∧ win0_2.index t 1 = 0 := by
  decide +kernel

/-- Operand 2 of launch 0 is passed whole. -/
theorem block0_2 (c : Dev nD) (t : Fin cfg0.N) : iblk0 (F := Ideal) V c 2 t = V c main_v80 := by
  have h := origin0_2 t
  funext y
  blk_ext [iblk0, h.1, h.2]

/-- Window 3 of launch 0 has one block, at the origin. -/
theorem origin0_3 : ∀ t : Fin grid0.N, win0_3.index t 0 = 0 ∧ win0_3.index t 1 = 0 := by
  decide +kernel

/-- Operand 3 of launch 0 is passed whole. -/
theorem block0_3 (c : Dev nD) (t : Fin cfg0.N) : iblk0 (F := Ideal) V c 3 t = V c main_v67 := by
  have h := origin0_3 t
  funext y
  blk_ext [iblk0, h.1, h.2]

/-- Window 4 of launch 0 has one block, at the origin. -/
theorem origin0_4 : ∀ t : Fin grid0.N, win0_4.index t 0 = 0 ∧ win0_4.index t 1 = 0 := by
  decide +kernel

/-- Operand 4 of launch 0 is passed whole. -/
theorem block0_4 (c : Dev nD) (t : Fin cfg0.N) : iblk0 (F := Ideal) V c 4 t = V c main_v79 := by
  have h := origin0_4 t
  funext y
  blk_ext [iblk0, h.1, h.2]

/-- Window 5 of launch 0 has one block, at the origin. -/
theorem origin0_5 : ∀ t : Fin grid0.N, win0_5.index t 0 = 0 ∧ win0_5.index t 1 = 0 := by
  decide +kernel

/-- Operand 5 of launch 0 is passed whole. -/
theorem block0_5 (c : Dev nD) (t : Fin cfg0.N) : iblk0 (F := Ideal) V c 5 t = V c main_v91 := by
  have h := origin0_5 t
  funext y
  blk_ext [iblk0, h.1, h.2]

/-- Window 6 of launch 0 has one block, at the origin. -/
theorem origin0_6 : ∀ t : Fin grid0.N, win0_6.index t 0 = 0 ∧ win0_6.index t 1 = 0 := by
  decide +kernel

/-- Operand 6 of launch 0 is passed whole. -/
theorem block0_6 (c : Dev nD) (t : Fin cfg0.N) : iblk0 (F := Ideal) V c 6 t = V c main_v96 := by
  have h := origin0_6 t
  funext y
  blk_ext [iblk0, h.1, h.2]

/-- Window 7 of launch 0 has one block, at the origin. -/
theorem origin0_7 : ∀ t : Fin grid0.N, win0_7.index t 0 = 0 ∧ win0_7.index t 1 = 0 := by
  decide +kernel

/-- Operand 7 of launch 0 is passed whole. -/
theorem block0_7 (c : Dev nD) (t : Fin cfg0.N) : iblk0 (F := Ideal) V c 7 t = V c main_cst := by
  have h := origin0_7 t
  funext y
  blk_ext [iblk0, h.1, h.2]

/-- Window 5 of launch 1 has one block, at the origin. -/
theorem origin1_5 : ∀ t : Fin grid1.N, win1_5.index t 0 = 0 ∧ win1_5.index t 1 = 0 := by
  decide +kernel

/-- What the suppression launch leaves: the masked scores of its five operands. -/
theorem final1 (c : Dev nD) : (dat1 V c).arrAt 5 cfg1.N = k1_pay17 (nmsState (V c main_v123) (V c main_v127) (V c main_v131) (V c main_v135) k1_t1_loop.trips) (V c main_v137) := by
  refine (dat1 V c).arrAt_eq_of_covers 5 _ (by decide +kernel) fun t hf y => ?_
  have h := origin1_5 t
  blk_simp; rw [after1_5]
  unfold outsAt1
  rw [out1_eq, block1_0, block1_1, block1_2, block1_3, block1_4]
  generalize k1_pay17 (F := Ideal) _ _ = G
  blk_ext [h.1, h.2]

/-- Window 8 of launch 0 has one block, at the origin. -/
theorem origin0_8 : ∀ t : Fin grid0.N, win0_8.index t 0 = 0 ∧ win0_8.index t 1 = 0 := by
  decide +kernel

/-- What the head launch leaves in its result 0. -/
theorem final0_8 (c : Dev nD) : (dat0 V c).arrAt 8 cfg0.N = out0_8 (V c main_v22) (V c main_v50) (V c main_v80) (V c main_v67) (V c main_v79) (V c main_v91) (V c main_v96) (V c main_cst) := by
  refine (dat0 V c).arrAt_eq_of_covers 8 _ (by decide +kernel) fun t hf y => ?_
  have h := origin0_8 t
  blk_simp; rw [after0_8, block0_0, block0_1, block0_2, block0_3, block0_4, block0_5, block0_6, block0_7]
  generalize out0_8 (F := Ideal) _ _ _ _ _ _ _ _ = G
  blk_ext [h.1, h.2]

/-- Window 9 of launch 0 has one block, at the origin. -/
theorem origin0_9 : ∀ t : Fin grid0.N, win0_9.index t 0 = 0 ∧ win0_9.index t 1 = 0 := by
  decide +kernel

/-- What the head launch leaves in its result 1. -/
theorem final0_9 (c : Dev nD) : (dat0 V c).arrAt 9 cfg0.N = out0_9 (V c main_v22) (V c main_v50) (V c main_v80) (V c main_v67) (V c main_v79) (V c main_v91) (V c main_v96) (V c main_cst) := by
  refine (dat0 V c).arrAt_eq_of_covers 9 _ (by decide +kernel) fun t hf y => ?_
  have h := origin0_9 t
  blk_simp; rw [after0_9, block0_0, block0_1, block0_2, block0_3, block0_4, block0_5, block0_6, block0_7]
  generalize out0_9 (F := Ideal) _ _ _ _ _ _ _ _ = G
  blk_ext [h.1, h.2]

/-- Window 10 of launch 0 has one block, at the origin. -/
theorem origin0_10 : ∀ t : Fin grid0.N, win0_10.index t 0 = 0 ∧ win0_10.index t 1 = 0 := by
  decide +kernel

/-- What the head launch leaves in its result 2. -/
theorem final0_10 (c : Dev nD) : (dat0 V c).arrAt 10 cfg0.N = out0_10 (V c main_v22) (V c main_v50) (V c main_v80) (V c main_v67) (V c main_v79) (V c main_v91) (V c main_v96) (V c main_cst) := by
  refine (dat0 V c).arrAt_eq_of_covers 10 _ (by decide +kernel) fun t hf y => ?_
  have h := origin0_10 t
  blk_simp; rw [after0_10, block0_0, block0_1, block0_2, block0_3, block0_4, block0_5, block0_6, block0_7]
  generalize out0_10 (F := Ideal) _ _ _ _ _ _ _ _ = G
  blk_ext [h.1, h.2]

/-- Window 11 of launch 0 has one block, at the origin. -/
theorem origin0_11 : ∀ t : Fin grid0.N, win0_11.index t 0 = 0 ∧ win0_11.index t 1 = 0 := by
  decide +kernel

/-- What the head launch leaves in its result 3. -/
theorem final0_11 (c : Dev nD) : (dat0 V c).arrAt 11 cfg0.N = out0_11 (V c main_v22) (V c main_v50) (V c main_v80) (V c main_v67) (V c main_v79) (V c main_v91) (V c main_v96) (V c main_cst) := by
  refine (dat0 V c).arrAt_eq_of_covers 11 _ (by decide +kernel) fun t hf y => ?_
  have h := origin0_11 t
  blk_simp; rw [after0_11, block0_0, block0_1, block0_2, block0_3, block0_4, block0_5, block0_6, block0_7]
  generalize out0_11 (F := Ideal) _ _ _ _ _ _ _ _ = G
  blk_ext [h.1, h.2]

/-- Window 12 of launch 0 has one block, at the origin. -/
theorem origin0_12 : ∀ t : Fin grid0.N, win0_12.index t 0 = 0 ∧ win0_12.index t 1 = 0 := by
  decide +kernel

/-- What the head launch leaves in its result 4. -/
theorem final0_12 (c : Dev nD) : (dat0 V c).arrAt 12 cfg0.N = out0_12 (V c main_v22) (V c main_v50) (V c main_v80) (V c main_v67) (V c main_v79) (V c main_v91) (V c main_v96) (V c main_cst) := by
  refine (dat0 V c).arrAt_eq_of_covers 12 _ (by decide +kernel) fun t hf y => ?_
  have h := origin0_12 t
  blk_simp; rw [after0_12, block0_0, block0_1, block0_2, block0_3, block0_4, block0_5, block0_6, block0_7]
  generalize out0_12 (F := Ideal) _ _ _ _ _ _ _ _ = G
  blk_ext [h.1, h.2]

variable (m : (ℓ : Loc nD τ sig) → Buf (Elt Ideal) ℓ) (ρ : Dev nD → PrngReg)

/-- The masked scores the second launch leaves, from the five arrays it is entered with. -/
theorem masked_at (c : Dev nD) : W26 m ρ c (Proc.devRef .tc main_v138)
    = k1_pay17 (nmsState (W25 m ρ c (Proc.devRef .tc main_v123)) (W25 m ρ c (Proc.devRef .tc main_v127))
        (W25 m ρ c (Proc.devRef .tc main_v131)) (W25 m ρ c (Proc.devRef .tc main_v135)) k1_t1_loop.trips)
        (W25 m ρ c (Proc.devRef .tc main_v137)) :=
  (W26_arr m ρ c 5).trans (final1 (V25 m ρ) c)

/-- Result 0 of the head launch, from the eight arrays it is entered with. -/
theorem head_at0 (c : Dev nD) : W14 m ρ c (Proc.devRef .tc main_v97_0)
    = out0_8 (W13 m ρ c (Proc.devRef .tc main_v22)) (W13 m ρ c (Proc.devRef .tc main_v50)) (W13 m ρ c (Proc.devRef .tc main_v80)) (W13 m ρ c (Proc.devRef .tc main_v67)) (W13 m ρ c (Proc.devRef .tc main_v79)) (W13 m ρ c (Proc.devRef .tc main_v91)) (W13 m ρ c (Proc.devRef .tc main_v96)) (W13 m ρ c (Proc.devRef .tc main_cst)) :=
  (W14_arr m ρ c 8).trans (final0_8 (V13 m ρ) c)

/-- Result 1 of the head launch, from the eight arrays it is entered with. -/
theorem head_at1 (c : Dev nD) : W14 m ρ c (Proc.devRef .tc main_v97_1)
    = out0_9 (W13 m ρ c (Proc.devRef .tc main_v22)) (W13 m ρ c (Proc.devRef .tc main_v50)) (W13 m ρ c (Proc.devRef .tc main_v80)) (W13 m ρ c (Proc.devRef .tc main_v67)) (W13 m ρ c (Proc.devRef .tc main_v79)) (W13 m ρ c (Proc.devRef .tc main_v91)) (W13 m ρ c (Proc.devRef .tc main_v96)) (W13 m ρ c (Proc.devRef .tc main_cst)) :=
  (W14_arr m ρ c 9).trans (final0_9 (V13 m ρ) c)

/-- Result 2 of the head launch, from the eight arrays it is entered with. -/
theorem head_at2 (c : Dev nD) : W14 m ρ c (Proc.devRef .tc main_v97_2)
    = out0_10 (W13 m ρ c (Proc.devRef .tc main_v22)) (W13 m ρ c (Proc.devRef .tc main_v50)) (W13 m ρ c (Proc.devRef .tc main_v80)) (W13 m ρ c (Proc.devRef .tc main_v67)) (W13 m ρ c (Proc.devRef .tc main_v79)) (W13 m ρ c (Proc.devRef .tc main_v91)) (W13 m ρ c (Proc.devRef .tc main_v96)) (W13 m ρ c (Proc.devRef .tc main_cst)) :=
  (W14_arr m ρ c 10).trans (final0_10 (V13 m ρ) c)

/-- Result 3 of the head launch, from the eight arrays it is entered with. -/
theorem head_at3 (c : Dev nD) : W14 m ρ c (Proc.devRef .tc main_v97_3)
    = out0_11 (W13 m ρ c (Proc.devRef .tc main_v22)) (W13 m ρ c (Proc.devRef .tc main_v50)) (W13 m ρ c (Proc.devRef .tc main_v80)) (W13 m ρ c (Proc.devRef .tc main_v67)) (W13 m ρ c (Proc.devRef .tc main_v79)) (W13 m ρ c (Proc.devRef .tc main_v91)) (W13 m ρ c (Proc.devRef .tc main_v96)) (W13 m ρ c (Proc.devRef .tc main_cst)) :=
  (W14_arr m ρ c 11).trans (final0_11 (V13 m ρ) c)

/-- Result 4 of the head launch, from the eight arrays it is entered with. -/
theorem head_at4 (c : Dev nD) : W14 m ρ c (Proc.devRef .tc main_v97_4)
    = out0_12 (W13 m ρ c (Proc.devRef .tc main_v22)) (W13 m ρ c (Proc.devRef .tc main_v50)) (W13 m ρ c (Proc.devRef .tc main_v80)) (W13 m ρ c (Proc.devRef .tc main_v67)) (W13 m ρ c (Proc.devRef .tc main_v79)) (W13 m ρ c (Proc.devRef .tc main_v91)) (W13 m ρ c (Proc.devRef .tc main_v96)) (W13 m ρ c (Proc.devRef .tc main_cst)) :=
  (W14_arr m ρ c 12).trans (final0_12 (V13 m ρ) c)

end Cert.KernelIdeal.Gen
end
-- ==== Proof.KernelTail.lean ====
module

public import proofs.«01_k».proof.Proof.KernelRegions
public import Idealize.ShloMosaic.Lib.Pointwise

@[expose] public section

set_option maxRecDepth 16384

noncomputable section

namespace Cert.KernelIdeal.Gen

open Idealize.ShloMosaic Idealize.ShloMosaic.TcCoe Idealize.ShloMosaic.Tactic

/-- A table position as the gather reads it: a negative one counts from the end of `n` rows. -/
def wrapped6000 (i : IVec S6000 32) : IVec S6000x1 32 :=
  broadcastInDim S6000x1 ![0] bcast_S6000_S6000x1_0
    (select (cmpi .slt i (broadcastInDim S6000 ![] bcast_S_S6000 (constantI S_ 32 0#32)))
      (addi i (broadcastInDim S6000 ![] bcast_S_S6000 (constantI S_ 32 22500#32))) i)

/-- The 6000 best scores, in order. -/
def bestScores (s : FVec Ideal S22500 .f32) : FVec Ideal S6000 .f32 :=
  (Host.topK S6000 0 (FloatOps.cmpfTotal .gt) s sliceFits_S22500_S6000).1

/-- The boxes of the 6000 best scores, in order. -/
def bestBoxes (s : FVec Ideal S22500 .f32) (p : FVec Ideal S22500x4 .f32) :
    FVec Ideal S6000x4 .f32 :=
  Host.gather gather_S22500x4_S6000x1_S6000x4_1_0_n_n_0_1_14 p
    (wrapped6000 (Host.topK S6000 0 (FloatOps.cmpfTotal .gt) s sliceFits_S22500_S6000).2)

/-- Coordinate 0 of each of the 6000 boxes. -/
def edge0 (b : FVec Ideal S6000x4 .f32) : FVec Ideal S6000 .f32 :=
  shapeCast S6000 (extractStridedSlice S6000x1 ![0, 0] b slices_S6000x4_S6000x1_0_0) shapeCasts_S6000x1_S6000

/-- Coordinate 1 of each of the 6000 boxes. -/
def edge1 (b : FVec Ideal S6000x4 .f32) : FVec Ideal S6000 .f32 :=
  shapeCast S6000 (extractStridedSlice S6000x1 ![0, 1] b slices_S6000x4_S6000x1_0_1) shapeCasts_S6000x1_S6000

/-- Coordinate 2 of each of the 6000 boxes. -/
def edge2 (b : FVec Ideal S6000x4 .f32) : FVec Ideal S6000 .f32 :=
  shapeCast S6000 (extractStridedSlice S6000x1 ![0, 2] b slices_S6000x4_S6000x1_0_2) shapeCasts_S6000x1_S6000

/-- Coordinate 3 of each of the 6000 boxes. -/
def edge3 (b : FVec Ideal S6000x4 .f32) : FVec Ideal S6000 .f32 :=
  shapeCast S6000 (extractStridedSlice S6000x1 ![0, 3] b slices_S6000x4_S6000x1_0_3) shapeCasts_S6000x1_S6000

/-- The 2000 best of the masked scores beside their boxes. -/
def kept (b : FVec Ideal S6000x4 .f32) (s : FVec Ideal S6000 .f32) :
    FVec Ideal S2000x5 .f32 :=
  concatenate S2000x5 1
    [⟨S2000x4, Host.gather gather_S6000x4_S2000x1_S2000x4_1_0_n_n_0_1_14 b (broadcastInDim S2000x1 ![0] bcast_S2000_S2000x1_0
        (select (cmpi .slt (Host.topK S2000 0 (FloatOps.cmpfTotal .gt) s sliceFits_S6000_S2000).2
            (broadcastInDim S2000 ![] bcast_S_S2000 (constantI S_ 32 0#32)))
          (addi (Host.topK S2000 0 (FloatOps.cmpfTotal .gt) s sliceFits_S6000_S2000).2
            (broadcastInDim S2000 ![] bcast_S_S2000 (constantI S_ 32 6000#32)))
          (Host.topK S2000 0 (FloatOps.cmpfTotal .gt) s sliceFits_S6000_S2000).2))⟩,
     ⟨S2000x1, broadcastInDim S2000x1 ![0] bcast_S2000_S2000x1_0 (Host.topK S2000 0 (FloatOps.cmpfTotal .gt) s sliceFits_S6000_S2000).1⟩]
    concatenates_S2000x4_S2000x1_S2000x5_d1

/-- The first 2500 rows of a result of the head launch, as one list. -/
def rows (x : FVec Ideal S2504x9 .f32) : FVec Ideal S22500 .f32 :=
  shapeCast S22500 (extractStridedSlice S2500x9 ![0, 0] x slices_S2504x9_S2500x9_0_0) shapeCasts_S2500x9_S22500

/-- Four lists side by side. -/
def boxes4 (a b c d : FVec Ideal S22500 .f32) : FVec Ideal S22500x4 .f32 :=
  concatenate S22500x4 1 [⟨S22500x1, broadcastInDim S22500x1 ![0] bcast_S22500_S22500x1_0 a⟩,
    ⟨S22500x1, broadcastInDim S22500x1 ![0] bcast_S22500_S22500x1_0 b⟩,
    ⟨S22500x1, broadcastInDim S22500x1 ![0] bcast_S22500_S22500x1_0 c⟩,
    ⟨S22500x1, broadcastInDim S22500x1 ![0] bcast_S22500_S22500x1_0 d⟩] concatenates_S22500x1_S22500x1_S22500x1_S22500x1_S22500x4_d1

/-- A list of 6000 laid out on the 47 by 128 grid, the rest filled with `v`. -/
def onGrid (v : FVec Ideal S_ .f32) (x : FVec Ideal S6000 .f32) : FVec Ideal S47x128 .f32 :=
  shapeCast S47x128 (pad S6016 ![0] ![16] ![0] x v pads_S6000_S6016_0160 h_S_) shapeCasts_S6016_S47x128

/-- The first 6000 places of the grid as a list. -/
def offGrid (x : FVec Ideal S47x128 .f32) : FVec Ideal S6000 .f32 :=
  extractStridedSlice S6000 ![0] (shapeCast S6016 x shapeCasts_S47x128_S6016) slices_S6016_S6000_0

section Stretches
variable (V : Valuation τ sig (Elt Ideal))

theorem after1_scores : StableHlo.after hostOps1 V (Proc.devRef .tc main_values)
    = bestScores (rows (V (Proc.devRef .tc main_v97_0))) := by
  after_results
  rfl

theorem after1_boxes : StableHlo.after hostOps1 V (Proc.devRef .tc main_v119)
    = bestBoxes (rows (V (Proc.devRef .tc main_v97_0)))
        (boxes4 (rows (V (Proc.devRef .tc main_v97_1))) (rows (V (Proc.devRef .tc main_v97_2)))
          (rows (V (Proc.devRef .tc main_v97_3))) (rows (V (Proc.devRef .tc main_v97_4)))) := by
  after_results
  rfl

theorem after1_edge0 : StableHlo.after hostOps1 V (Proc.devRef .tc main_v121)
    = edge0 (bestBoxes (rows (V (Proc.devRef .tc main_v97_0)))
        (boxes4 (rows (V (Proc.devRef .tc main_v97_1))) (rows (V (Proc.devRef .tc main_v97_2)))
          (rows (V (Proc.devRef .tc main_v97_3))) (rows (V (Proc.devRef .tc main_v97_4))))) := by
  after_results
  rfl

theorem after1_fill : StableHlo.after hostOps1 V (Proc.devRef .tc main_cst_11) = constant (F := Ideal) S_ .f32 0x00000000#32 := by
  after_results

theorem after2_result : StableHlo.after hostOps2 V (Proc.devRef .tc main_v149)
    = kept (V (Proc.devRef .tc main_v119)) (offGrid (V (Proc.devRef .tc main_v138))) := by
  after_results
  rfl

theorem after1_1_pad : StableHlo.after hostOps1_1 V (Proc.devRef .tc main_v122)
    = pad S6016 ![0] ![16] ![0] (V (Proc.devRef .tc main_v121)) (V (Proc.devRef .tc main_cst_11)) pads_S6000_S6016_0160 h_S_ := by
  after_results
  rfl

theorem after1_3_pad : StableHlo.after hostOps1_3 V (Proc.devRef .tc main_v126)
    = pad S6016 ![0] ![16] ![0] (V (Proc.devRef .tc main_v125)) (V (Proc.devRef .tc main_cst_12)) pads_S6000_S6016_0160 h_S_ := by
  after_results
  rfl

theorem after1_5_pad : StableHlo.after hostOps1_5 V (Proc.devRef .tc main_v130)
    = pad S6016 ![0] ![16] ![0] (V (Proc.devRef .tc main_v129)) (V (Proc.devRef .tc main_cst_13)) pads_S6000_S6016_0160 h_S_ := by
  after_results
  rfl

theorem after1_7_pad : StableHlo.after hostOps1_7 V (Proc.devRef .tc main_v134)
    = pad S6016 ![0] ![16] ![0] (V (Proc.devRef .tc main_v133)) (V (Proc.devRef .tc main_cst_14)) pads_S6000_S6016_0160 h_S_ := by
  after_results
  rfl

theorem after1_9_pad : StableHlo.after hostOps1_9 V (Proc.devRef .tc main_v136)
    = pad S6016 ![0] ![16] ![0] (V (Proc.devRef .tc main_values)) (V (Proc.devRef .tc main_cst_15)) pads_S6000_S6016_0160 h_S_ := by
  after_results
  rfl

theorem after1_2_grid : StableHlo.after hostOps1_2 V (Proc.devRef .tc main_v123)
    = shapeCast S47x128 (V (Proc.devRef .tc main_v122)) shapeCasts_S6016_S47x128 := by
  after_results
  rfl

theorem after1_4_grid : StableHlo.after hostOps1_4 V (Proc.devRef .tc main_v127)
    = shapeCast S47x128 (V (Proc.devRef .tc main_v126)) shapeCasts_S6016_S47x128 := by
  after_results
  rfl

theorem after1_6_grid : StableHlo.after hostOps1_6 V (Proc.devRef .tc main_v131)
    = shapeCast S47x128 (V (Proc.devRef .tc main_v130)) shapeCasts_S6016_S47x128 := by
  after_results
  rfl

theorem after1_8_grid : StableHlo.after hostOps1_8 V (Proc.devRef .tc main_v135)
    = shapeCast S47x128 (V (Proc.devRef .tc main_v134)) shapeCasts_S6016_S47x128 := by
  after_results
  rfl

theorem after1_10_grid : StableHlo.after hostOps1_10 V (Proc.devRef .tc main_v137)
    = shapeCast S47x128 (V (Proc.devRef .tc main_v136)) shapeCasts_S6016_S47x128 := by
  after_results
  rfl

theorem after1_2_edge : StableHlo.after hostOps1_2 V (Proc.devRef .tc main_v125) = edge1 (V (Proc.devRef .tc main_v119)) := by
  after_results
  rfl

theorem after1_2_fill : StableHlo.after hostOps1_2 V (Proc.devRef .tc main_cst_12) = constant (F := Ideal) S_ .f32 0x00000000#32 := by
  after_results

theorem after1_4_edge : StableHlo.after hostOps1_4 V (Proc.devRef .tc main_v129) = edge2 (V (Proc.devRef .tc main_v119)) := by
  after_results
  rfl

theorem after1_4_fill : StableHlo.after hostOps1_4 V (Proc.devRef .tc main_cst_13) = constant (F := Ideal) S_ .f32 0x00000000#32 := by
  after_results

theorem after1_6_edge : StableHlo.after hostOps1_6 V (Proc.devRef .tc main_v133) = edge3 (V (Proc.devRef .tc main_v119)) := by
  after_results
  rfl

theorem after1_6_fill : StableHlo.after hostOps1_6 V (Proc.devRef .tc main_cst_14) = constant (F := Ideal) S_ .f32 0x00000000#32 := by
  after_results

theorem after1_8_fill : StableHlo.after hostOps1_8 V (Proc.devRef .tc main_cst_15) = constant (F := Ideal) S_ .f32 0xCE6E6B28#32 := by
  after_results

end Stretches

section Boundaries
variable (m : (ℓ : Loc nD τ sig) → Buf (Elt Ideal) ℓ) (ρ : Dev nD → PrngReg) (c : Dev nD)

/-- The scores of all the anchors, as the program leaves them after the head launch. -/
def scoresK : FVec Ideal S22500 .f32 := rows (W14 m ρ c (Proc.devRef .tc main_v97_0))

/-- The boxes of all the anchors, as the program leaves them after the head launch. -/
def boxesK : FVec Ideal S22500x4 .f32 :=
  boxes4 (rows (W14 m ρ c (Proc.devRef .tc main_v97_1))) (rows (W14 m ρ c (Proc.devRef .tc main_v97_2)))
    (rows (W14 m ρ c (Proc.devRef .tc main_v97_3))) (rows (W14 m ρ c (Proc.devRef .tc main_v97_4)))

/-- The fill of the coordinates. -/
def zeroFill : FVec Ideal S_ .f32 := constant (F := Ideal) S_ .f32 0x00000000#32
/-- The fill of the scores. -/
def lowFill : FVec Ideal S_ .f32 := constant (F := Ideal) S_ .f32 0xCE6E6B28#32

theorem boxes_at : W15 m ρ c (Proc.devRef .tc main_v119) = bestBoxes (scoresK m ρ c) (boxesK m ρ c) :=
  after1_boxes (W14 m ρ c)

theorem scores_at : W15 m ρ c (Proc.devRef .tc main_values) = bestScores (scoresK m ρ c) :=
  after1_scores (W14 m ρ c)

theorem grid0_at : W25 m ρ c (Proc.devRef .tc main_v123) = onGrid zeroFill (edge0 (bestBoxes (scoresK m ρ c) (boxesK m ρ c))) := by
  have e : W15 m ρ c (Proc.devRef .tc main_v121) = edge0 (bestBoxes (scoresK m ρ c) (boxesK m ρ c)) := after1_edge0 (W14 m ρ c)
  have f : W15 m ρ c (Proc.devRef .tc main_cst_11) = zeroFill := after1_fill (W14 m ρ c)
  have p : W16 m ρ c (Proc.devRef .tc main_v122) = pad S6016 ![0] ![16] ![0] (edge0 (bestBoxes (scoresK m ρ c) (boxesK m ρ c))) zeroFill pads_S6000_S6016_0160 h_S_ := by
    refine (after1_1_pad (W15 m ρ c)).trans ?_
    rw [e, f]
  have g : W17 m ρ c (Proc.devRef .tc main_v123) = onGrid zeroFill (edge0 (bestBoxes (scoresK m ρ c) (boxesK m ρ c))) := by
    refine (after1_2_grid (W16 m ρ c)).trans ?_
    rw [p]
    rfl
  rw [W25_of m ρ c main_v123 (by decide +kernel), W24_of m ρ c main_v123 (by decide +kernel), W23_of m ρ c main_v123 (by decide +kernel), W22_of m ρ c main_v123 (by decide +kernel), W21_of m ρ c main_v123 (by decide +kernel), W20_of m ρ c main_v123 (by decide +kernel), W19_of m ρ c main_v123 (by decide +kernel), W18_of m ρ c main_v123 (by decide +kernel)]
  exact g

theorem grid1_at : W25 m ρ c (Proc.devRef .tc main_v127) = onGrid zeroFill (edge1 (bestBoxes (scoresK m ρ c) (boxesK m ρ c))) := by
  have b : W16 m ρ c (Proc.devRef .tc main_v119) = bestBoxes (scoresK m ρ c) (boxesK m ρ c) := by
    rw [W16_of m ρ c main_v119 (by decide +kernel), boxes_at]
  have e : W17 m ρ c (Proc.devRef .tc main_v125) = edge1 (bestBoxes (scoresK m ρ c) (boxesK m ρ c)) :=
    (after1_2_edge (W16 m ρ c)).trans (congrArg edge1 b)
  have f : W17 m ρ c (Proc.devRef .tc main_cst_12) = zeroFill := after1_2_fill (W16 m ρ c)
  have p : W18 m ρ c (Proc.devRef .tc main_v126) = pad S6016 ![0] ![16] ![0] (edge1 (bestBoxes (scoresK m ρ c) (boxesK m ρ c))) zeroFill pads_S6000_S6016_0160 h_S_ := by
    refine (after1_3_pad (W17 m ρ c)).trans ?_
    rw [e, f]
  have g : W19 m ρ c (Proc.devRef .tc main_v127) = onGrid zeroFill (edge1 (bestBoxes (scoresK m ρ c) (boxesK m ρ c))) := by
    refine (after1_4_grid (W18 m ρ c)).trans ?_
    rw [p]
    rfl
  rw [W25_of m ρ c main_v127 (by decide +kernel), W24_of m ρ c main_v127 (by decide +kernel), W23_of m ρ c main_v127 (by decide +kernel), W22_of m ρ c main_v127 (by decide +kernel), W21_of m ρ c main_v127 (by decide +kernel), W20_of m ρ c main_v127 (by decide +kernel)]
  exact g

theorem grid2_at : W25 m ρ c (Proc.devRef .tc main_v131) = onGrid zeroFill (edge2 (bestBoxes (scoresK m ρ c) (boxesK m ρ c))) := by
  have b : W18 m ρ c (Proc.devRef .tc main_v119) = bestBoxes (scoresK m ρ c) (boxesK m ρ c) := by
    rw [W18_of m ρ c main_v119 (by decide +kernel), W17_of m ρ c main_v119 (by decide +kernel), W16_of m ρ c main_v119 (by decide +kernel), boxes_at]
  have e : W19 m ρ c (Proc.devRef .tc main_v129) = edge2 (bestBoxes (scoresK m ρ c) (boxesK m ρ c)) :=
    (after1_4_edge (W18 m ρ c)).trans (congrArg edge2 b)
  have f : W19 m ρ c (Proc.devRef .tc main_cst_13) = zeroFill := after1_4_fill (W18 m ρ c)
  have p : W20 m ρ c (Proc.devRef .tc main_v130) = pad S6016 ![0] ![16] ![0] (edge2 (bestBoxes (scoresK m ρ c) (boxesK m ρ c))) zeroFill pads_S6000_S6016_0160 h_S_ := by
    refine (after1_5_pad (W19 m ρ c)).trans ?_
    rw [e, f]
  have g : W21 m ρ c (Proc.devRef .tc main_v131) = onGrid zeroFill (edge2 (bestBoxes (scoresK m ρ c) (boxesK m ρ c))) := by
    refine (after1_6_grid (W20 m ρ c)).trans ?_
    rw [p]
    rfl
  rw [W25_of m ρ c main_v131 (by decide +kernel), W24_of m ρ c main_v131 (by decide +kernel), W23_of m ρ c main_v131 (by decide +kernel), W22_of m ρ c main_v131 (by decide +kernel)]
  exact g

theorem grid3_at : W25 m ρ c (Proc.devRef .tc main_v135) = onGrid zeroFill (edge3 (bestBoxes (scoresK m ρ c) (boxesK m ρ c))) := by
  have b : W20 m ρ c (Proc.devRef .tc main_v119) = bestBoxes (scoresK m ρ c) (boxesK m ρ c) := by
    rw [W20_of m ρ c main_v119 (by decide +kernel), W19_of m ρ c main_v119 (by decide +kernel), W18_of m ρ c main_v119 (by decide +kernel), W17_of m ρ c main_v119 (by decide +kernel), W16_of m ρ c main_v119 (by decide +kernel), boxes_at]
  have e : W21 m ρ c (Proc.devRef .tc main_v133) = edge3 (bestBoxes (scoresK m ρ c) (boxesK m ρ c)) :=
    (after1_6_edge (W20 m ρ c)).trans (congrArg edge3 b)
  have f : W21 m ρ c (Proc.devRef .tc main_cst_14) = zeroFill := after1_6_fill (W20 m ρ c)
  have p : W22 m ρ c (Proc.devRef .tc main_v134) = pad S6016 ![0] ![16] ![0] (edge3 (bestBoxes (scoresK m ρ c) (boxesK m ρ c))) zeroFill pads_S6000_S6016_0160 h_S_ := by
    refine (after1_7_pad (W21 m ρ c)).trans ?_
    rw [e, f]
  have g : W23 m ρ c (Proc.devRef .tc main_v135) = onGrid zeroFill (edge3 (bestBoxes (scoresK m ρ c) (boxesK m ρ c))) := by
    refine (after1_8_grid (W22 m ρ c)).trans ?_
    rw [p]
    rfl
  rw [W25_of m ρ c main_v135 (by decide +kernel), W24_of m ρ c main_v135 (by decide +kernel)]
  exact g

theorem grid4_at : W25 m ρ c (Proc.devRef .tc main_v137) = onGrid lowFill (bestScores (scoresK m ρ c)) := by
  have e : W23 m ρ c (Proc.devRef .tc main_values) = bestScores (scoresK m ρ c) := by
    rw [W23_of m ρ c main_values (by decide +kernel), W22_of m ρ c main_values (by decide +kernel), W21_of m ρ c main_values (by decide +kernel), W20_of m ρ c main_values (by decide +kernel), W19_of m ρ c main_values (by decide +kernel), W18_of m ρ c main_values (by decide +kernel), W17_of m ρ c main_values (by decide +kernel), W16_of m ρ c main_values (by decide +kernel), scores_at]
  have f : W23 m ρ c (Proc.devRef .tc main_cst_15) = lowFill := after1_8_fill (W22 m ρ c)
  have p : W24 m ρ c (Proc.devRef .tc main_v136) = pad S6016 ![0] ![16] ![0] (bestScores (scoresK m ρ c)) lowFill pads_S6000_S6016_0160 h_S_ := by
    refine (after1_9_pad (W23 m ρ c)).trans ?_
    rw [e, f]
  refine (after1_10_grid (W24 m ρ c)).trans ?_
  rw [p]
  rfl

/-- The masked scores as the second launch leaves them, from all scores `s` and boxes `p`. -/
def maskedOf (s : FVec Ideal S22500 .f32) (p : FVec Ideal S22500x4 .f32) : FVec Ideal S6000 .f32 :=
  offGrid (k1_pay17 (nmsState (onGrid zeroFill (edge0 (bestBoxes s p))) (onGrid zeroFill (edge1 (bestBoxes s p)))
    (onGrid zeroFill (edge2 (bestBoxes s p))) (onGrid zeroFill (edge3 (bestBoxes s p))) k1_t1_loop.trips)
    (onGrid lowFill (bestScores s)))

/-- The program's result, from all scores and boxes. -/
theorem result_at : W27 m ρ c (Proc.devRef .tc main_v149)
    = kept (bestBoxes (scoresK m ρ c) (boxesK m ρ c)) (maskedOf (scoresK m ρ c) (boxesK m ρ c)) := by
  have b : W26 m ρ c (Proc.devRef .tc main_v119) = bestBoxes (scoresK m ρ c) (boxesK m ρ c) := by
    rw [W26_of_ne m ρ c main_v119 (by decide +kernel), W25_of m ρ c main_v119 (by decide +kernel), W24_of m ρ c main_v119 (by decide +kernel), W23_of m ρ c main_v119 (by decide +kernel), W22_of m ρ c main_v119 (by decide +kernel), W21_of m ρ c main_v119 (by decide +kernel), W20_of m ρ c main_v119 (by decide +kernel), W19_of m ρ c main_v119 (by decide +kernel), W18_of m ρ c main_v119 (by decide +kernel), W17_of m ρ c main_v119 (by decide +kernel), W16_of m ρ c main_v119 (by decide +kernel), boxes_at]
  refine (after2_result (W26 m ρ c)).trans ?_
  rw [b, masked_at, grid0_at, grid1_at, grid2_at, grid3_at, grid4_at]
  rfl

end Boundaries

end Cert.KernelIdeal.Gen
end
-- ==== Proof.KernelAnchors.lean ====
module

public import proofs.«01_k».proof.Proof.KernelEntry
public import proofs.«01_k».proof.Proof.KernelHead
public import proofs.«01_k».proof.Proof.KernelTail

@[expose] public section

set_option maxRecDepth 16384

noncomputable section

/-! The score and the box of every anchor, as the head launch leaves them, from the program's arguments. -/

namespace Cert.KernelIdeal.Gen

open Cert.Head Idealize.ShloMosaic Idealize.ShloMosaic.TcCoe Idealize.ShloMosaic.Tactic

variable (m : (ℓ : Loc nD τ sig) → Buf (Elt Ideal) ℓ) (ρ : Dev nD → PrngReg) (c : Dev nD)

/-- The head's data in the program's arguments. -/
def net (m : (ℓ : Loc nD τ sig) → Buf (Elt Ideal) ℓ) (c : Dev nD) : Net where
  image k y x := (m ((c : Thread nD τ).loc main_arg1) : FVec Ideal S1x256x50x50 .f32) (ix4 0 k y x)
  filter o k i j := (m ((c : Thread nD τ).loc main_arg2) : FVec Ideal S256x256x3x3 .f32) (ix4 o k i j)
  shift o := (m ((c : Thread nD τ).loc main_arg3) : FVec Ideal S256 .f32) (ix1 o)
  classWeight a o := (m ((c : Thread nD τ).loc main_arg4) : FVec Ideal S9x256x1x1 .f32) (ix4 a o 0 0)
  classShift a := (m ((c : Thread nD τ).loc main_arg5) : FVec Ideal S9 .f32) (ix1 a)
  boxWeight n o := (m ((c : Thread nD τ).loc main_arg6) : FVec Ideal S36x256x1x1 .f32) (ix4 n o 0 0)
  boxShift n := (m ((c : Thread nD τ).loc main_arg7) : FVec Ideal S36 .f32) (ix1 n)
  anchor a j := Ideal.ofBits .f32 (lit0 ⟨j.1 * 16 + a.1, by omega⟩)

/-- The first 2500 rows, one after another. -/
theorem rows_apply (x : FVec Ideal S2504x9 .f32) (p : Fin 22500) :
    rows x (ix1 p) = x (ix2 ⟨p.1 / 9, by omega⟩ ⟨p.1 % 9, by omega⟩) := by
  unfold rows
  pointwise

/-- The row of the head launch's logits that belongs to a cell. -/
abbrev logitsAt : FVec Ideal S2504x48 .f32 :=
  k0_pay23 (W13 m ρ c (Proc.devRef .tc main_v22)) (W13 m ρ c (Proc.devRef .tc main_v50)) (W13 m ρ c (Proc.devRef .tc main_v80)) (W13 m ρ c (Proc.devRef .tc main_v67)) (W13 m ρ c (Proc.devRef .tc main_v79)) (W13 m ρ c (Proc.devRef .tc main_v91)) (W13 m ρ c (Proc.devRef .tc main_v96)) (W13 m ρ c (Proc.devRef .tc main_cst))

/-- The hidden layer over cell `r`. -/
theorem hidden_at (r : Fin 2500) (o : Fin 256) :
    feature (fun t k => (W13 m ρ c (Proc.devRef .tc main_v50) : FVec Ideal S2304x256 .f32) (ix2 ⟨256 * t + k, by omega⟩ o))
        (fun t k => (W13 m ρ c (Proc.devRef .tc main_v22) : FVec Ideal S2504x2304 .f32) (ix2 ⟨r, by omega⟩ ⟨256 * t + k, by omega⟩))
        ((W13 m ρ c (Proc.devRef .tc main_v80) : FVec Ideal S1x256 .f32) (ix2 0 o))
      = (net m c).hiddenAt (r.1 / 50) (r.1 % 50) o := by
  rw [w13_v50, w13_v22, w13_v80]
  unfold Net.hiddenAt
  have hf : ∀ (t : Fin 9) (k : Fin 256), lengthened (patches (bordered (m ((c : Thread nD τ).loc main_arg1) : FVec Ideal S1x256x50x50 .f32))) (ix2 ⟨r, by omega⟩ ⟨256 * t + k, by omega⟩)
      = pixel (net m c).image (r.1 / 50 + t.1 / 3) (r.1 % 50 + t.1 % 3) k := fun t k =>
    (lengthened_apply _ r ⟨256 * t + k, by omega⟩).trans (patches_apply _ r t k)
  have hw : ∀ (t : Fin 9) (k : Fin 256), filters (m ((c : Thread nD τ).loc main_arg2) : FVec Ideal S256x256x3x3 .f32) (ix2 ⟨256 * t + k, by omega⟩ o)
      = (net m c).filter o k ⟨t.1 / 3, by omega⟩ ⟨t.1 % 3, by omega⟩ := fun t k => filters_apply _ t k o
  have hb : broadcastInDim S1x256 ![1] bcast_S256_S1x256_1 (m ((c : Thread nD τ).loc main_arg3) : FVec Ideal S256 .f32) (ix2 0 o) = (net m c).shift o := by
    unfold net
    pointwise
  rw [show (fun (t : Fin 9) (k : Fin 256) => _) = _ from funext fun t => funext fun k => hw t k,
    show (fun (t : Fin 9) (k : Fin 256) => _) = _ from funext fun t => funext fun k => hf t k, hb]

theorem classLogit_at (r : Fin 2500) (a : Fin 9) :
    logitsAt m ρ c (ix2 ⟨r, by omega⟩ ⟨a, by omega⟩) = (net m c).classLogit (r.1 / 50) (r.1 % 50) a := by
  refine (logits_apply _ _ _ _ _ _ _ _ ⟨r, by omega⟩ ⟨a, by omega⟩).trans ?_
  unfold Net.classLogit
  rw [show (fun o => feature _ _ _) = _ from funext fun o => hidden_at m ρ c r o]
  have hw : ∀ o : Fin 256, (W13 m ρ c (Proc.devRef .tc main_v67) : FVec Ideal S256x48 .f32) (ix2 o ⟨a, by omega⟩) = (net m c).classWeight a o := fun o => by
    rw [w13_v67]
    exact classSlopes_apply _ _ o a
  have hb : (W13 m ρ c (Proc.devRef .tc main_v79) : FVec Ideal S1x48 .f32) (ix2 0 ⟨a, by omega⟩) = (net m c).classShift a := by
    rw [w13_v79]
    refine Eq.trans ?_ (classOffsets_apply _ (m ((c : Thread nD τ).loc main_arg7) : FVec Ideal S36 .f32) a)
    generalize extended _ = X
    pointwise
  exact congrArg₂ (fun w b => logit w _ b) (funext hw) hb

theorem boxLogit_at (r : Fin 2500) (a : Fin 9) (j : Fin 4) :
    logitsAt m ρ c (ix2 ⟨r, by omega⟩ ⟨9 * (j + 1) + a, by omega⟩) = (net m c).boxLogit (r.1 / 50) (r.1 % 50) a j := by
  refine (logits_apply _ _ _ _ _ _ _ _ ⟨r, by omega⟩ ⟨9 * (j + 1) + a, by omega⟩).trans ?_
  unfold Net.boxLogit
  rw [show (fun o => feature _ _ _) = _ from funext fun o => hidden_at m ρ c r o]
  have hw : ∀ o : Fin 256, (W13 m ρ c (Proc.devRef .tc main_v67) : FVec Ideal S256x48 .f32) (ix2 o ⟨9 * (j + 1) + a, by omega⟩)
      = (net m c).boxWeight ⟨a * 4 + j, by omega⟩ o := fun o => by
    rw [w13_v67]
    exact slopes_apply _ _ j o a
  have hb : (W13 m ρ c (Proc.devRef .tc main_v79) : FVec Ideal S1x48 .f32) (ix2 0 ⟨9 * (j + 1) + a, by omega⟩)
      = (net m c).boxShift ⟨a * 4 + j, by omega⟩ := by
    rw [w13_v79]
    refine Eq.trans ?_ (offsets_apply (m ((c : Thread nD τ).loc main_arg5) : FVec Ideal S9 .f32) _ j a)
    generalize extended _ = X
    pointwise
  exact congrArg₂ (fun w b => logit w _ b) (funext hw) hb

theorem column_at (r : Fin 2504) : (W13 m ρ c (Proc.devRef .tc main_v91) : FVec Ideal S2504x1 .f32) (ix2 r 0) = position (r.1 % 50) := by
  rw [w13_v91]
  exact columns_apply r

theorem line_at (r : Fin 2504) : (W13 m ρ c (Proc.devRef .tc main_v96) : FVec Ideal S2504x1 .f32) (ix2 r 0) = position (r.1 / 50) := by
  rw [w13_v96]
  exact lines_apply r

theorem anchor_at (a : Fin 9) (j : Fin 4) : (W13 m ρ c (Proc.devRef .tc main_cst) : FVec Ideal S8x16 .f32) (ix2 ⟨j, by omega⟩ ⟨a, by omega⟩)
    = (net m c).anchor a j := by
  rw [w13_cst]
  show Ideal.ofBits .f32 (lit0 (S8x16.rowMajor (ix2 ⟨j, by omega⟩ ⟨a, by omega⟩))) = Ideal.ofBits .f32 (lit0 ⟨j.1 * 16 + a.1, by omega⟩)
  refine congrArg (fun k => Ideal.ofBits .f32 (lit0 k)) (Fin.ext ?_)
  show (S8x16.rowMajor (ix2 ⟨j, by omega⟩ ⟨a, by omega⟩)).val = j.1 * 16 + a.1
  revert a j
  decide +kernel

/-- The scores. -/
theorem scoresK_apply (p : Fin 22500) : scoresK m ρ c (ix1 p) = (net m c).score p := by
  unfold scoresK Net.score
  rw [rows_apply, head_at0]
  refine (score_apply _ _ _ _ _ _ _ _ _ _).trans (congrArg scoreOf ?_)
  exact classLogit_at m ρ c ⟨p.1 / 9, by omega⟩ ⟨p.1 % 9, by omega⟩

theorem left_entry (p : Fin 22500) : rows (W14 m ρ c (Proc.devRef .tc main_v97_1)) (ix1 p) = (net m c).left p := by
  unfold Net.left
  rw [rows_apply, head_at1]
  refine (left_apply _ _ _ _ _ _ _ _ _ _).trans ?_
  have h1 := boxLogit_at m ρ c ⟨p.1 / 9, by omega⟩ ⟨p.1 % 9, by omega⟩ 0
  have h2 := boxLogit_at m ρ c ⟨p.1 / 9, by omega⟩ ⟨p.1 % 9, by omega⟩ 2
  have h3 := column_at m ρ c ⟨p.1 / 9, by omega⟩
  have h4 := anchor_at m ρ c ⟨p.1 % 9, by omega⟩ 0
  have h5 := anchor_at m ρ c ⟨p.1 % 9, by omega⟩ 2
  rw [← h1, ← h2, ← h3, ← h4, ← h5]
  rfl

theorem top_entry (p : Fin 22500) : rows (W14 m ρ c (Proc.devRef .tc main_v97_2)) (ix1 p) = (net m c).top p := by
  unfold Net.top
  rw [rows_apply, head_at2]
  refine (top_apply _ _ _ _ _ _ _ _ _ _).trans ?_
  have h1 := boxLogit_at m ρ c ⟨p.1 / 9, by omega⟩ ⟨p.1 % 9, by omega⟩ 1
  have h2 := boxLogit_at m ρ c ⟨p.1 / 9, by omega⟩ ⟨p.1 % 9, by omega⟩ 3
  have h3 := line_at m ρ c ⟨p.1 / 9, by omega⟩
  have h4 := anchor_at m ρ c ⟨p.1 % 9, by omega⟩ 1
  have h5 := anchor_at m ρ c ⟨p.1 % 9, by omega⟩ 3
  rw [← h1, ← h2, ← h3, ← h4, ← h5]
  rfl

theorem right_entry (p : Fin 22500) : rows (W14 m ρ c (Proc.devRef .tc main_v97_3)) (ix1 p) = (net m c).right p := by
  unfold Net.right
  rw [rows_apply, head_at3]
  refine (right_apply _ _ _ _ _ _ _ _ _ _).trans ?_
  have h1 := boxLogit_at m ρ c ⟨p.1 / 9, by omega⟩ ⟨p.1 % 9, by omega⟩ 0
  have h2 := boxLogit_at m ρ c ⟨p.1 / 9, by omega⟩ ⟨p.1 % 9, by omega⟩ 2
  have h3 := column_at m ρ c ⟨p.1 / 9, by omega⟩
  have h4 := anchor_at m ρ c ⟨p.1 % 9, by omega⟩ 0
  have h5 := anchor_at m ρ c ⟨p.1 % 9, by omega⟩ 2
  rw [← h1, ← h2, ← h3, ← h4, ← h5]
  rfl

theorem bottom_entry (p : Fin 22500) : rows (W14 m ρ c (Proc.devRef .tc main_v97_4)) (ix1 p) = (net m c).bottom p := by
  unfold Net.bottom
  rw [rows_apply, head_at4]
  refine (bottom_apply _ _ _ _ _ _ _ _ _ _).trans ?_
  have h1 := boxLogit_at m ρ c ⟨p.1 / 9, by omega⟩ ⟨p.1 % 9, by omega⟩ 1
  have h2 := boxLogit_at m ρ c ⟨p.1 / 9, by omega⟩ ⟨p.1 % 9, by omega⟩ 3
  have h3 := line_at m ρ c ⟨p.1 / 9, by omega⟩
  have h4 := anchor_at m ρ c ⟨p.1 % 9, by omega⟩ 1
  have h5 := anchor_at m ρ c ⟨p.1 % 9, by omega⟩ 3
  rw [← h1, ← h2, ← h3, ← h4, ← h5]
  rfl

end Cert.KernelIdeal.Gen

end
-- ==== Proof.ReferenceHead.lean ====
module

public import proofs.«01_k».proof.Defs
public import proofs.«01_k».proof.Proof.HeadSpec
public import proofs.«01_k».proof.Proof.Gen.ReferenceIdeal.Run
public import Idealize.ShloMosaic.Lib.Pointwise

@[expose] public section

set_option maxRecDepth 16384

noncomputable section

/-! The arrays of the reference's head, as functions of the program's arguments, and their entries. -/

namespace Cert.ReferenceIdeal.Value

open Cert.Head Idealize.ShloMosaic Idealize.ShloMosaic.TcCoe Idealize.ShloMosaic.Tactic
open Idealize.ShloMosaic.StableHlo Cert.ReferenceIdeal.Gen

/-- The zero the program pads with. -/
def padZero : FVec Ideal S_ .f32 := sitofp .f32 (constantI S_ 32 0#32)

theorem fill_zero : (FloatOps.sitofp (F := Ideal) .f32 (0#32 : BitVec 32)) = (0 : EReal) := by
  show ((((0#32 : BitVec 32).toInt : ℤ) : ℝ) : EReal) = 0
  simp

/-- The feature map with a border of one zero. -/
def bordered (x : FVec Ideal S1x256x50x50 .f32) : FVec Ideal S256x52x52 .f32 :=
  pad S256x52x52 ![0, 1, 1] ![0, 1, 1] ![0, 0, 0] (shapeCast S256x50x50 x shapeCasts_S1x256x50x50_S256x50x50) padZero pads_S256x50x50_S256x52x52_000_110_110 h_S_

/-- An array with a border of nothing. -/
def unbordered (x : FVec Ideal S256x50x50 .f32) : FVec Ideal S256x50x50 .f32 :=
  pad S256x50x50 ![0, 0, 0] ![0, 0, 0] ![0, 0, 0] x padZero pads_S256x50x50_S256x50x50_000_000_000 h_S_

theorem unbordered_apply (x : FVec Ideal S256x50x50 .f32) (o : Fin 256) (y z : Fin 50) : unbordered x (ix3 o y z) = x (ix3 o y z) := by
  unfold unbordered padZero
  pointwise

/-- What tap (0, 0) adds. -/
def tap0 (w : FVec Ideal S256x256x3x3 .f32) (x : FVec Ideal S256x52x52 .f32) : FVec Ideal S256x50x50 .f32 :=
  Host.dotGeneral dot_S256x256_S256x50x50_S256x50x50_1_0_0_12_n_n none
    (shapeCast S256x256 (extractStridedSlice S256x256x1x1 ![0, 0, 0, 0] w slices_S256x256x3x3_S256x256x1x1_0_0_0_0) shapeCasts_S256x256x1x1_S256x256)
    (extractStridedSlice S256x50x50 ![0, 0, 0] x slices_S256x52x52_S256x50x50_0_0_0)

theorem tap0_apply (w : FVec Ideal S256x256x3x3 .f32) (x : FVec Ideal S1x256x50x50 .f32) (o : Fin 256) (y z : Fin 50) :
    tap0 w (bordered x) (ix3 o y z) = tap (fun k => w (ix4 o k 0 0)) (fun k => pixel (fun k y z => x (ix4 0 k y z)) (y.1 + 0) (z.1 + 0) k) := by
  have hx : ∀ k : Fin 256, extractStridedSlice S256x50x50 ![0, 0, 0] (bordered x) slices_S256x52x52_S256x50x50_0_0_0 (ix3 k y z)
      = pixel (fun k y z => x (ix4 0 k y z)) (y.1 + 0) (z.1 + 0) k := by
    intro k
    unfold bordered padZero pixel
    pointwise
    refine dite_congr (propext (by first | exact Iff.rfl | omega)) (fun _ => ?_) fun _ => fill_zero
    exact congrArg₂ (fun a b => x (ix4 0 k a b)) (Fin.ext (by dsimp only <;> omega)) (Fin.ext (by dsimp only <;> omega))
  unfold tap0 tap
  simp only [← hx]
  generalize extractStridedSlice S256x50x50 ![0, 0, 0] (bordered x) slices_S256x52x52_S256x50x50_0_0_0 = X
  pointwise

/-- What tap (0, 1) adds. -/
def tap1 (w : FVec Ideal S256x256x3x3 .f32) (x : FVec Ideal S256x52x52 .f32) : FVec Ideal S256x50x50 .f32 :=
  Host.dotGeneral dot_S256x256_S256x50x50_S256x50x50_1_0_0_12_n_n none
    (shapeCast S256x256 (extractStridedSlice S256x256x1x1 ![0, 0, 0, 1] w slices_S256x256x3x3_S256x256x1x1_0_0_0_1) shapeCasts_S256x256x1x1_S256x256)
    (extractStridedSlice S256x50x50 ![0, 0, 1] x slices_S256x52x52_S256x50x50_0_0_1)

theorem tap1_apply (w : FVec Ideal S256x256x3x3 .f32) (x : FVec Ideal S1x256x50x50 .f32) (o : Fin 256) (y z : Fin 50) :
    tap1 w (bordered x) (ix3 o y z) = tap (fun k => w (ix4 o k 0 1)) (fun k => pixel (fun k y z => x (ix4 0 k y z)) (y.1 + 0) (z.1 + 1) k) := by
  have hx : ∀ k : Fin 256, extractStridedSlice S256x50x50 ![0, 0, 1] (bordered x) slices_S256x52x52_S256x50x50_0_0_1 (ix3 k y z)
      = pixel (fun k y z => x (ix4 0 k y z)) (y.1 + 0) (z.1 + 1) k := by
    intro k
    unfold bordered padZero pixel
    pointwise
    refine dite_congr (propext (by first | exact Iff.rfl | omega)) (fun _ => ?_) fun _ => fill_zero
    exact congrArg₂ (fun a b => x (ix4 0 k a b)) (Fin.ext (by dsimp only <;> omega)) (Fin.ext (by dsimp only <;> omega))
  unfold tap1 tap
  simp only [← hx]
  generalize extractStridedSlice S256x50x50 ![0, 0, 1] (bordered x) slices_S256x52x52_S256x50x50_0_0_1 = X
  pointwise

/-- What tap (0, 2) adds. -/
def tap2 (w : FVec Ideal S256x256x3x3 .f32) (x : FVec Ideal S256x52x52 .f32) : FVec Ideal S256x50x50 .f32 :=
  Host.dotGeneral dot_S256x256_S256x50x50_S256x50x50_1_0_0_12_n_n none
    (shapeCast S256x256 (extractStridedSlice S256x256x1x1 ![0, 0, 0, 2] w slices_S256x256x3x3_S256x256x1x1_0_0_0_2) shapeCasts_S256x256x1x1_S256x256)
    (extractStridedSlice S256x50x50 ![0, 0, 2] x slices_S256x52x52_S256x50x50_0_0_2)

theorem tap2_apply (w : FVec Ideal S256x256x3x3 .f32) (x : FVec Ideal S1x256x50x50 .f32) (o : Fin 256) (y z : Fin 50) :
    tap2 w (bordered x) (ix3 o y z) = tap (fun k => w (ix4 o k 0 2)) (fun k => pixel (fun k y z => x (ix4 0 k y z)) (y.1 + 0) (z.1 + 2) k) := by
  have hx : ∀ k : Fin 256, extractStridedSlice S256x50x50 ![0, 0, 2] (bordered x) slices_S256x52x52_S256x50x50_0_0_2 (ix3 k y z)
      = pixel (fun k y z => x (ix4 0 k y z)) (y.1 + 0) (z.1 + 2) k := by
    intro k
    unfold bordered padZero pixel
    pointwise
    refine dite_congr (propext (by first | exact Iff.rfl | omega)) (fun _ => ?_) fun _ => fill_zero
    exact congrArg₂ (fun a b => x (ix4 0 k a b)) (Fin.ext (by dsimp only <;> omega)) (Fin.ext (by dsimp only <;> omega))
  unfold tap2 tap
  simp only [← hx]
  generalize extractStridedSlice S256x50x50 ![0, 0, 2] (bordered x) slices_S256x52x52_S256x50x50_0_0_2 = X
  pointwise

/-- What tap (1, 0) adds. -/
def tap3 (w : FVec Ideal S256x256x3x3 .f32) (x : FVec Ideal S256x52x52 .f32) : FVec Ideal S256x50x50 .f32 :=
  Host.dotGeneral dot_S256x256_S256x50x50_S256x50x50_1_0_0_12_n_n none
    (shapeCast S256x256 (extractStridedSlice S256x256x1x1 ![0, 0, 1, 0] w slices_S256x256x3x3_S256x256x1x1_0_0_1_0) shapeCasts_S256x256x1x1_S256x256)
    (extractStridedSlice S256x50x50 ![0, 1, 0] x slices_S256x52x52_S256x50x50_0_1_0)

theorem tap3_apply (w : FVec Ideal S256x256x3x3 .f32) (x : FVec Ideal S1x256x50x50 .f32) (o : Fin 256) (y z : Fin 50) :
    tap3 w (bordered x) (ix3 o y z) = tap (fun k => w (ix4 o k 1 0)) (fun k => pixel (fun k y z => x (ix4 0 k y z)) (y.1 + 1) (z.1 + 0) k) := by
  have hx : ∀ k : Fin 256, extractStridedSlice S256x50x50 ![0, 1, 0] (bordered x) slices_S256x52x52_S256x50x50_0_1_0 (ix3 k y z)
      = pixel (fun k y z => x (ix4 0 k y z)) (y.1 + 1) (z.1 + 0) k := by
    intro k
    unfold bordered padZero pixel
    pointwise
    refine dite_congr (propext (by first | exact Iff.rfl | omega)) (fun _ => ?_) fun _ => fill_zero
    exact congrArg₂ (fun a b => x (ix4 0 k a b)) (Fin.ext (by dsimp only <;> omega)) (Fin.ext (by dsimp only <;> omega))
  unfold tap3 tap
  simp only [← hx]
  generalize extractStridedSlice S256x50x50 ![0, 1, 0] (bordered x) slices_S256x52x52_S256x50x50_0_1_0 = X
  pointwise

/-- What tap (1, 1) adds. -/
def tap4 (w : FVec Ideal S256x256x3x3 .f32) (x : FVec Ideal S256x52x52 .f32) : FVec Ideal S256x50x50 .f32 :=
  Host.dotGeneral dot_S256x256_S256x50x50_S256x50x50_1_0_0_12_n_n none
    (shapeCast S256x256 (extractStridedSlice S256x256x1x1 ![0, 0, 1, 1] w slices_S256x256x3x3_S256x256x1x1_0_0_1_1) shapeCasts_S256x256x1x1_S256x256)
    (extractStridedSlice S256x50x50 ![0, 1, 1] x slices_S256x52x52_S256x50x50_0_1_1)

theorem tap4_apply (w : FVec Ideal S256x256x3x3 .f32) (x : FVec Ideal S1x256x50x50 .f32) (o : Fin 256) (y z : Fin 50) :
    tap4 w (bordered x) (ix3 o y z) = tap (fun k => w (ix4 o k 1 1)) (fun k => pixel (fun k y z => x (ix4 0 k y z)) (y.1 + 1) (z.1 + 1) k) := by
  have hx : ∀ k : Fin 256, extractStridedSlice S256x50x50 ![0, 1, 1] (bordered x) slices_S256x52x52_S256x50x50_0_1_1 (ix3 k y z)
      = pixel (fun k y z => x (ix4 0 k y z)) (y.1 + 1) (z.1 + 1) k := by
    intro k
    unfold bordered padZero pixel
    pointwise
    rw [dif_pos (by omega)]
    exact congrArg₂ (fun a b => x (ix4 0 k a b)) (Fin.ext (by dsimp only <;> omega)) (Fin.ext (by dsimp only <;> omega))
  unfold tap4 tap
  simp only [← hx]
  generalize extractStridedSlice S256x50x50 ![0, 1, 1] (bordered x) slices_S256x52x52_S256x50x50_0_1_1 = X
  pointwise

/-- What tap (1, 2) adds. -/
def tap5 (w : FVec Ideal S256x256x3x3 .f32) (x : FVec Ideal S256x52x52 .f32) : FVec Ideal S256x50x50 .f32 :=
  Host.dotGeneral dot_S256x256_S256x50x50_S256x50x50_1_0_0_12_n_n none
    (shapeCast S256x256 (extractStridedSlice S256x256x1x1 ![0, 0, 1, 2] w slices_S256x256x3x3_S256x256x1x1_0_0_1_2) shapeCasts_S256x256x1x1_S256x256)
    (extractStridedSlice S256x50x50 ![0, 1, 2] x slices_S256x52x52_S256x50x50_0_1_2)

theorem tap5_apply (w : FVec Ideal S256x256x3x3 .f32) (x : FVec Ideal S1x256x50x50 .f32) (o : Fin 256) (y z : Fin 50) :
    tap5 w (bordered x) (ix3 o y z) = tap (fun k => w (ix4 o k 1 2)) (fun k => pixel (fun k y z => x (ix4 0 k y z)) (y.1 + 1) (z.1 + 2) k) := by
  have hx : ∀ k : Fin 256, extractStridedSlice S256x50x50 ![0, 1, 2] (bordered x) slices_S256x52x52_S256x50x50_0_1_2 (ix3 k y z)
      = pixel (fun k y z => x (ix4 0 k y z)) (y.1 + 1) (z.1 + 2) k := by
    intro k
    unfold bordered padZero pixel
    pointwise
    refine dite_congr (propext (by first | exact Iff.rfl | omega)) (fun _ => ?_) fun _ => fill_zero
    exact congrArg₂ (fun a b => x (ix4 0 k a b)) (Fin.ext (by dsimp only <;> omega)) (Fin.ext (by dsimp only <;> omega))
  unfold tap5 tap
  simp only [← hx]
  generalize extractStridedSlice S256x50x50 ![0, 1, 2] (bordered x) slices_S256x52x52_S256x50x50_0_1_2 = X
  pointwise

/-- What tap (2, 0) adds. -/
def tap6 (w : FVec Ideal S256x256x3x3 .f32) (x : FVec Ideal S256x52x52 .f32) : FVec Ideal S256x50x50 .f32 :=
  Host.dotGeneral dot_S256x256_S256x50x50_S256x50x50_1_0_0_12_n_n none
    (shapeCast S256x256 (extractStridedSlice S256x256x1x1 ![0, 0, 2, 0] w slices_S256x256x3x3_S256x256x1x1_0_0_2_0) shapeCasts_S256x256x1x1_S256x256)
    (extractStridedSlice S256x50x50 ![0, 2, 0] x slices_S256x52x52_S256x50x50_0_2_0)

theorem tap6_apply (w : FVec Ideal S256x256x3x3 .f32) (x : FVec Ideal S1x256x50x50 .f32) (o : Fin 256) (y z : Fin 50) :
    tap6 w (bordered x) (ix3 o y z) = tap (fun k => w (ix4 o k 2 0)) (fun k => pixel (fun k y z => x (ix4 0 k y z)) (y.1 + 2) (z.1 + 0) k) := by
  have hx : ∀ k : Fin 256, extractStridedSlice S256x50x50 ![0, 2, 0] (bordered x) slices_S256x52x52_S256x50x50_0_2_0 (ix3 k y z)
      = pixel (fun k y z => x (ix4 0 k y z)) (y.1 + 2) (z.1 + 0) k := by
    intro k
    unfold bordered padZero pixel
    pointwise
    refine dite_congr (propext (by first | exact Iff.rfl | omega)) (fun _ => ?_) fun _ => fill_zero
    exact congrArg₂ (fun a b => x (ix4 0 k a b)) (Fin.ext (by dsimp only <;> omega)) (Fin.ext (by dsimp only <;> omega))
  unfold tap6 tap
  simp only [← hx]
  generalize extractStridedSlice S256x50x50 ![0, 2, 0] (bordered x) slices_S256x52x52_S256x50x50_0_2_0 = X
  pointwise

/-- What tap (2, 1) adds. -/
def tap7 (w : FVec Ideal S256x256x3x3 .f32) (x : FVec Ideal S256x52x52 .f32) : FVec Ideal S256x50x50 .f32 :=
  Host.dotGeneral dot_S256x256_S256x50x50_S256x50x50_1_0_0_12_n_n none
    (shapeCast S256x256 (extractStridedSlice S256x256x1x1 ![0, 0, 2, 1] w slices_S256x256x3x3_S256x256x1x1_0_0_2_1) shapeCasts_S256x256x1x1_S256x256)
    (extractStridedSlice S256x50x50 ![0, 2, 1] x slices_S256x52x52_S256x50x50_0_2_1)

theorem tap7_apply (w : FVec Ideal S256x256x3x3 .f32) (x : FVec Ideal S1x256x50x50 .f32) (o : Fin 256) (y z : Fin 50) :
    tap7 w (bordered x) (ix3 o y z) = tap (fun k => w (ix4 o k 2 1)) (fun k => pixel (fun k y z => x (ix4 0 k y z)) (y.1 + 2) (z.1 + 1) k) := by
  have hx : ∀ k : Fin 256, extractStridedSlice S256x50x50 ![0, 2, 1] (bordered x) slices_S256x52x52_S256x50x50_0_2_1 (ix3 k y z)
      = pixel (fun k y z => x (ix4 0 k y z)) (y.1 + 2) (z.1 + 1) k := by
    intro k
    unfold bordered padZero pixel
    pointwise
    refine dite_congr (propext (by first | exact Iff.rfl | omega)) (fun _ => ?_) fun _ => fill_zero
    exact congrArg₂ (fun a b => x (ix4 0 k a b)) (Fin.ext (by dsimp only <;> omega)) (Fin.ext (by dsimp only <;> omega))
  unfold tap7 tap
  simp only [← hx]
  generalize extractStridedSlice S256x50x50 ![0, 2, 1] (bordered x) slices_S256x52x52_S256x50x50_0_2_1 = X
  pointwise

/-- What tap (2, 2) adds. -/
def tap8 (w : FVec Ideal S256x256x3x3 .f32) (x : FVec Ideal S256x52x52 .f32) : FVec Ideal S256x50x50 .f32 :=
  Host.dotGeneral dot_S256x256_S256x50x50_S256x50x50_1_0_0_12_n_n none
    (shapeCast S256x256 (extractStridedSlice S256x256x1x1 ![0, 0, 2, 2] w slices_S256x256x3x3_S256x256x1x1_0_0_2_2) shapeCasts_S256x256x1x1_S256x256)
    (extractStridedSlice S256x50x50 ![0, 2, 2] x slices_S256x52x52_S256x50x50_0_2_2)

theorem tap8_apply (w : FVec Ideal S256x256x3x3 .f32) (x : FVec Ideal S1x256x50x50 .f32) (o : Fin 256) (y z : Fin 50) :
    tap8 w (bordered x) (ix3 o y z) = tap (fun k => w (ix4 o k 2 2)) (fun k => pixel (fun k y z => x (ix4 0 k y z)) (y.1 + 2) (z.1 + 2) k) := by
  have hx : ∀ k : Fin 256, extractStridedSlice S256x50x50 ![0, 2, 2] (bordered x) slices_S256x52x52_S256x50x50_0_2_2 (ix3 k y z)
      = pixel (fun k y z => x (ix4 0 k y z)) (y.1 + 2) (z.1 + 2) k := by
    intro k
    unfold bordered padZero pixel
    pointwise
    refine dite_congr (propext (by first | exact Iff.rfl | omega)) (fun _ => ?_) fun _ => fill_zero
    exact congrArg₂ (fun a b => x (ix4 0 k a b)) (Fin.ext (by dsimp only <;> omega)) (Fin.ext (by dsimp only <;> omega))
  unfold tap8 tap
  simp only [← hx]
  generalize extractStridedSlice S256x50x50 ![0, 2, 2] (bordered x) slices_S256x52x52_S256x50x50_0_2_2 = X
  pointwise

/-- The hidden layer. -/
def hiddens (w : FVec Ideal S256x256x3x3 .f32) (b : FVec Ideal S256 .f32) (x : FVec Ideal S256x52x52 .f32) : FVec Ideal S256x50x50 .f32 :=
  addf (addf (addf (addf (addf (addf (addf (addf (addf (tap0 w x) (tap1 w x)) (tap2 w x)) (tap3 w x)) (tap4 w x)) (tap5 w x)) (tap6 w x)) (tap7 w x)) (tap8 w x))
    (broadcastInDim S256x50x50 ![0, 1, 2] bcast_S256x1x1_S256x50x50_0_1_2 (broadcastInDim S256x1x1 ![0] bcast_S256_S256x1x1_0 b))

/-- An array with its negative part cut off. -/
def rectified (x : FVec Ideal S256x50x50 .f32) : FVec Ideal S256x50x50 .f32 :=
  maximumf x (broadcastInDim S256x50x50 ![] bcast_S_S256x50x50 (constant (F := Ideal) S_ .f32 0x00000000#32))

/-- The class logits, anchor by anchor. -/
def classes (w : FVec Ideal S9x256x1x1 .f32) (b : FVec Ideal S9 .f32) (h : FVec Ideal S256x50x50 .f32) : FVec Ideal S9x50x50 .f32 :=
  addf (Host.dotGeneral dot_S9x256_S256x50x50_S9x50x50_1_0_0_12_n_n none (shapeCast S9x256 w shapeCasts_S9x256x1x1_S9x256) h)
    (broadcastInDim S9x50x50 ![0, 1, 2] bcast_S9x1x1_S9x50x50_0_1_2 (broadcastInDim S9x1x1 ![0] bcast_S9_S9x1x1_0 b))

/-- The class logits, cell by cell. -/
def classList (x : FVec Ideal S9x50x50 .f32) : FVec Ideal S22500 .f32 :=
  shapeCast S22500 (transpose S50x50x9 [1, 2, 0] x transposes_S9x50x50_S50x50x9_1_2_0) shapeCasts_S50x50x9_S22500

/-- The box offsets. -/
def offsetList (w : FVec Ideal S36x256x1x1 .f32) (b : FVec Ideal S36 .f32) (h : FVec Ideal S256x50x50 .f32) : FVec Ideal S22500x4 .f32 :=
  shapeCast S22500x4 (transpose S50x50x36 [1, 2, 0]
    (addf (Host.dotGeneral dot_S36x256_S256x50x50_S36x50x50_1_0_0_12_n_n none (shapeCast S36x256 w shapeCasts_S36x256x1x1_S36x256) h)
      (broadcastInDim S36x50x50 ![0, 1, 2] bcast_S36x1x1_S36x50x50_0_1_2 (broadcastInDim S36x1x1 ![0] bcast_S36_S36x1x1_0 b)))
    transposes_S36x50x50_S50x50x36_1_2_0) shapeCasts_S50x50x36_S22500x4

/-- The centres of 50 cells in a line. -/
def line : FVec Ideal S50 .f32 :=
  mulf (addf (sitofp .f32 (iotaInDim S50 32 0)) (broadcastInDim S50 ![] bcast_S_S50 (constant (F := Ideal) S_ .f32 0x3F000000#32)))
    (broadcastInDim S50 ![] bcast_S_S50 (constant (F := Ideal) S_ .f32 0x41800000#32))

/-- The position of every cell along the first axis. -/
def columns : FVec Ideal S2500x1 .f32 :=
  broadcastInDim S2500x1 ![0] bcast_S2500_S2500x1_0 (shapeCast S2500 (broadcastInDim S50x50 ![1] bcast_S50_S50x50_1 line) shapeCasts_S50x50_S2500)

/-- The position of every cell along the second axis. -/
def lines : FVec Ideal S2500x1 .f32 :=
  broadcastInDim S2500x1 ![0] bcast_S2500_S2500x1_0 (shapeCast S2500 (broadcastInDim S50x50 ![0] bcast_S50_S50x50_0 line) shapeCasts_S50x50_S2500)

/-- All anchors: every cell's position added to the anchors at the origin. -/
def anchors (a : FVec Ideal S9x4 .f32) : FVec Ideal S22500x4 .f32 :=
  shapeCast S22500x4 (addf
    (broadcastInDim S2500x9x4 ![0, 1, 2] bcast_S2500x1x4_S2500x9x4_0_1_2 (broadcastInDim S2500x1x4 ![0, 2] bcast_S2500x4_S2500x1x4_0_2
      (concatenate S2500x4 1 [⟨S2500x1, columns⟩, ⟨S2500x1, lines⟩, ⟨S2500x1, columns⟩, ⟨S2500x1, lines⟩] concatenates_S2500x1_S2500x1_S2500x1_S2500x1_S2500x4_d1)))
    (broadcastInDim S2500x9x4 ![0, 1, 2] bcast_S1x9x4_S2500x9x4_0_1_2 (broadcastInDim S1x9x4 ![1, 2] bcast_S9x4_S1x9x4_1_2 a)))
    shapeCasts_S2500x9x4_S22500x4

/-- Column 0. -/
def column0 (x : FVec Ideal S22500x4 .f32) : FVec Ideal S22500 .f32 :=
  shapeCast S22500 (extractStridedSlice S22500x1 ![0, 0] x slices_S22500x4_S22500x1_0_0) shapeCasts_S22500x1_S22500

theorem column0_apply (x : FVec Ideal S22500x4 .f32) (p : Fin 22500) : column0 x (ix1 p) = x (ix2 p 0) := by
  unfold column0
  pointwise

/-- Column 1. -/
def column1 (x : FVec Ideal S22500x4 .f32) : FVec Ideal S22500 .f32 :=
  shapeCast S22500 (extractStridedSlice S22500x1 ![0, 1] x slices_S22500x4_S22500x1_0_1) shapeCasts_S22500x1_S22500

theorem column1_apply (x : FVec Ideal S22500x4 .f32) (p : Fin 22500) : column1 x (ix1 p) = x (ix2 p 1) := by
  unfold column1
  pointwise

/-- Column 2. -/
def column2 (x : FVec Ideal S22500x4 .f32) : FVec Ideal S22500 .f32 :=
  shapeCast S22500 (extractStridedSlice S22500x1 ![0, 2] x slices_S22500x4_S22500x1_0_2) shapeCasts_S22500x1_S22500

theorem column2_apply (x : FVec Ideal S22500x4 .f32) (p : Fin 22500) : column2 x (ix1 p) = x (ix2 p 2) := by
  unfold column2
  pointwise

/-- Column 3. -/
def column3 (x : FVec Ideal S22500x4 .f32) : FVec Ideal S22500 .f32 :=
  shapeCast S22500 (extractStridedSlice S22500x1 ![0, 3] x slices_S22500x4_S22500x1_0_3) shapeCasts_S22500x1_S22500

theorem column3_apply (x : FVec Ideal S22500x4 .f32) (p : Fin 22500) : column3 x (ix1 p) = x (ix2 p 3) := by
  unfold column3
  pointwise

/-- The centres of the boxes along an axis: offsets `d`, anchors from `b` to `e`. -/
def centres (d b e : FVec Ideal S22500 .f32) : FVec Ideal S22500 .f32 := addf (mulf d (subf e b)) (addf b (mulf (broadcastInDim S22500 ![] bcast_S_S22500 (constant (F := Ideal) S_ .f32 0x3F000000#32)) (subf e b)))

/-- The extents of the boxes along an axis: log scales `l`, anchors from `b` to `e`. -/
def extents (l b e : FVec Ideal S22500 .f32) : FVec Ideal S22500 .f32 := mulf (Host.exp (minimumf l (broadcastInDim S22500 ![] bcast_S_S22500 (constant (F := Ideal) S_ .f32 0x40845349#32)))) (subf e b)

/-- Halved. -/
def halved (x : FVec Ideal S22500 .f32) : FVec Ideal S22500 .f32 := mulf (broadcastInDim S22500 ![] bcast_S_S22500 (constant (F := Ideal) S_ .f32 0x3F000000#32)) x

/-- A list cut to the range from `lo` to `hi`. -/
def cut (x : FVec Ideal S22500 .f32) (lo hi : FVec Ideal S_ .f32) : FVec Ideal S22500 .f32 :=
  minimumf (broadcastInDim S22500 ![] bcast_S_S22500 hi) (maximumf (broadcastInDim S22500 ![] bcast_S_S22500 lo) x)

theorem hiddens_apply (N : Net) (w : FVec Ideal S256x256x3x3 .f32) (b : FVec Ideal S256 .f32) (x : FVec Ideal S1x256x50x50 .f32) (o : Fin 256) (y z : Fin 50)
    (hw : N.filter = fun o k i j => w (ix4 o k i j)) (hb : N.shift = fun o => b (ix1 o)) (hx : N.image = fun k y z => x (ix4 0 k y z)) :
    rectified (hiddens w b (bordered x)) (ix3 o y z) = N.hiddenAt y.1 z.1 o := by
  unfold rectified hiddens Net.hiddenAt feature
  rw [hw, hb, hx]
  have h0 := tap0_apply w x o y z
  have h1 := tap1_apply w x o y z
  have h2 := tap2_apply w x o y z
  have h3 := tap3_apply w x o y z
  have h4 := tap4_apply w x o y z
  have h5 := tap5_apply w x o y z
  have h6 := tap6_apply w x o y z
  have h7 := tap7_apply w x o y z
  have h8 := tap8_apply w x o y z
  generalize bordered x = X at *
  generalize tap0 w X = T0, tap1 w X = T1, tap2 w X = T2, tap3 w X = T3, tap4 w X = T4, tap5 w X = T5, tap6 w X = T6, tap7 w X = T7, tap8 w X = T8 at *
  pointwise
  rw [h0, h1, h2, h3, h4, h5, h6, h7, h8]
  rfl

theorem classList_apply (N : Net) (w : FVec Ideal S9x256x1x1 .f32) (b : FVec Ideal S9 .f32) (h : FVec Ideal S256x50x50 .f32) (p : Fin 22500)
    (hw : N.classWeight = fun a o => w (ix4 a o 0 0)) (hb : N.classShift = fun a => b (ix1 a)) (hh : ∀ o y z, h (ix3 o y z) = N.hiddenAt y.1 z.1 o) :
    classList (classes w b h) (ix1 p) = N.classLogit (p.1 / 9 / 50) (p.1 / 9 % 50) ⟨p.1 % 9, by omega⟩ := by
  unfold classList classes Net.classLogit logit
  rw [hw, hb]
  pointwise
  simp only [hh, show p.1 / 450 = p.1 / 9 / 50 by omega]

theorem offsetList_apply (N : Net) (w : FVec Ideal S36x256x1x1 .f32) (b : FVec Ideal S36 .f32) (h : FVec Ideal S256x50x50 .f32) (p : Fin 22500) (j : Fin 4)
    (hw : N.boxWeight = fun a o => w (ix4 a o 0 0)) (hb : N.boxShift = fun a => b (ix1 a)) (hh : ∀ o y z, h (ix3 o y z) = N.hiddenAt y.1 z.1 o) :
    offsetList w b h (ix2 p j) = N.boxLogit (p.1 / 9 / 50) (p.1 / 9 % 50) ⟨p.1 % 9, by omega⟩ j := by
  unfold offsetList Net.boxLogit logit
  rw [hw, hb]
  pointwise
  simp only [hh, show p.1 / 450 = p.1 / 9 / 50 by omega]

theorem line_apply (n : Fin 50) : line (ix1 n) = position n.1 := by
  unfold line position
  pointwise
  have h : (BitVec.ofNat 32 n.1).toInt = ((n.1 : ℕ) : ℤ) := by
    revert n
    decide +kernel
  exact congrArg (fun t : ℤ => (((t : ℝ) : EReal) + Ideal.ofBits .f32 1056964608#32) * Ideal.ofBits .f32 1098907648#32) h

theorem columns_apply (r : Fin 2500) : columns (ix2 r 0) = position (r.1 % 50) := by
  refine Eq.trans ?_ (line_apply ⟨r.1 % 50, by omega⟩)
  unfold columns
  generalize line = X
  pointwise

theorem lines_apply (r : Fin 2500) : lines (ix2 r 0) = position (r.1 / 50) := by
  refine Eq.trans ?_ (line_apply ⟨r.1 / 50, by omega⟩)
  unfold lines
  generalize line = X
  pointwise

theorem anchors0_apply (a : FVec Ideal S9x4 .f32) (p : Fin 22500) : anchors a (ix2 p 0) = position (p.1 / 9 % 50) + a (ix2 ⟨p.1 % 9, by omega⟩ 0) := by
  rw [← columns_apply ⟨p.1 / 9, by omega⟩]
  unfold anchors
  generalize columns = X, lines = Y
  pointwise

theorem anchors1_apply (a : FVec Ideal S9x4 .f32) (p : Fin 22500) : anchors a (ix2 p 1) = position (p.1 / 9 / 50) + a (ix2 ⟨p.1 % 9, by omega⟩ 1) := by
  rw [← lines_apply ⟨p.1 / 9, by omega⟩]
  unfold anchors
  generalize columns = X, lines = Y
  pointwise

theorem anchors2_apply (a : FVec Ideal S9x4 .f32) (p : Fin 22500) : anchors a (ix2 p 2) = position (p.1 / 9 % 50) + a (ix2 ⟨p.1 % 9, by omega⟩ 2) := by
  rw [← columns_apply ⟨p.1 / 9, by omega⟩]
  unfold anchors
  generalize columns = X, lines = Y
  pointwise

theorem anchors3_apply (a : FVec Ideal S9x4 .f32) (p : Fin 22500) : anchors a (ix2 p 3) = position (p.1 / 9 / 50) + a (ix2 ⟨p.1 % 9, by omega⟩ 3) := by
  rw [← lines_apply ⟨p.1 / 9, by omega⟩]
  unfold anchors
  generalize columns = X, lines = Y
  pointwise

theorem low_apply (d l b e : FVec Ideal S22500 .f32) (p : Fin 22500) :
    cut (subf (centres d b e) (halved (extents l b e))) (constant (F := Ideal) S_ .f32 0x00000000#32) (constant (F := Ideal) S_ .f32 0x44480000#32) (ix1 p)
      = clip (d (ix1 p) * (e (ix1 p) - b (ix1 p)) + (b (ix1 p) + Ideal.ofBits .f32 1056964608#32 * (e (ix1 p) - b (ix1 p)))
        - Ideal.ofBits .f32 1056964608#32 * (Ideal.exp (min (l (ix1 p)) (Ideal.ofBits .f32 1082413897#32)) * (e (ix1 p) - b (ix1 p)))) := by
  unfold cut centres extents halved clip
  pointwise

theorem high_apply (d l b e : FVec Ideal S22500 .f32) (p : Fin 22500) :
    cut (addf (centres d b e) (halved (extents l b e))) (constant (F := Ideal) S_ .f32 0x00000000#32) (constant (F := Ideal) S_ .f32 0x44480000#32) (ix1 p)
      = clip (d (ix1 p) * (e (ix1 p) - b (ix1 p)) + (b (ix1 p) + Ideal.ofBits .f32 1056964608#32 * (e (ix1 p) - b (ix1 p)))
        + Ideal.ofBits .f32 1056964608#32 * (Ideal.exp (min (l (ix1 p)) (Ideal.ofBits .f32 1082413897#32)) * (e (ix1 p) - b (ix1 p)))) := by
  unfold cut centres extents halved clip
  pointwise

end Cert.ReferenceIdeal.Value

end
-- ==== Proof.NmsSpec.lean ====
module

public import Idealize.ShloMosaic.Lib.Pointwise

@[expose] public section

noncomputable section

namespace Cert.Nms

open Idealize.ShloMosaic

/-- The overlap of two boxes as the suppression test measures it: the area of their intersection. -/
def inter (a1 b1 a2 b2 c1 d1 c2 d2 : EReal) : EReal :=
  max (min a2 c2 - max a1 c1) 0 * max (min b2 d2 - max b1 d1) 0

/-- Whether box `a` and box `c` overlap by more than the threshold. -/
def overlaps (a1 b1 a2 b2 c1 d1 c2 d2 : EReal) : Prop :=
  Ideal.ofBits .f32 1060320051#32 <
    Ideal.div (inter a1 b1 a2 b2 c1 d1 c2 d2)
      (max (a2 - a1) 0 * max (b2 - b1) 0 + max (c2 - c1) 0 * max (d2 - d1) 0
        - inter a1 b1 a2 b2 c1 d1 c2 d2 + Ideal.ofBits .f32 814313567#32)

/-- The test is decided as any proposition is. -/
instance overlapsDec (a1 b1 a2 b2 c1 d1 c2 d2 : EReal) : Decidable (overlaps a1 b1 a2 b2 c1 d1 c2 d2) :=
  Classical.propDecidable _

/-- Which boxes are suppressed after the first `n` boxes have been looked at, each in its turn: box `n`, unless it is
    suppressed itself, suppresses every later box that it overlaps. -/
def suppressed (x1 y1 x2 y2 : Fin 6000 → EReal) : ℕ → Fin 6000 → Prop
  | 0, _ => False
  | n + 1, j => suppressed x1 y1 x2 y2 n j ∨ ∃ h : n < 6000,
      (overlaps (x1 ⟨n, h⟩) (y1 ⟨n, h⟩) (x2 ⟨n, h⟩) (y2 ⟨n, h⟩) (x1 j) (y1 j) (x2 j) (y2 j) ∧ n < j.val)
        ∧ ¬ suppressed x1 y1 x2 y2 n ⟨n, h⟩

/-- It is decided as any proposition is. -/
instance suppressedDec (x1 y1 x2 y2 : Fin 6000 → EReal) (n : ℕ) (j : Fin 6000) :
    Decidable (suppressed x1 y1 x2 y2 n j) := Classical.propDecidable _

/-- One more box looked at. -/
theorem suppressed_succ (x1 y1 x2 y2 : Fin 6000 → EReal) (n : ℕ) (h : n < 6000) (j : Fin 6000) :
    suppressed x1 y1 x2 y2 (n + 1) j ↔ suppressed x1 y1 x2 y2 n j ∨
      (overlaps (x1 ⟨n, h⟩) (y1 ⟨n, h⟩) (x2 ⟨n, h⟩) (y2 ⟨n, h⟩) (x1 j) (y1 j) (x2 j) (y2 j) ∧ n < j.val)
        ∧ ¬ suppressed x1 y1 x2 y2 n ⟨n, h⟩ := by
  conv_lhs => rw [suppressed]
  exact or_congr Iff.rfl ⟨fun ⟨_, q⟩ => q, fun q => ⟨h, q⟩⟩

end Cert.Nms
end
-- ==== Proof.ReferenceNms.lean ====
module

public import proofs.«01_k».proof.Defs
public import proofs.«01_k».proof.Proof.Gen.ReferenceIdeal.Run
public import proofs.«01_k».proof.Proof.NmsSpec
public import Idealize.ShloMosaic.Lib.Pointwise

@[expose] public section

set_option maxRecDepth 16384

noncomputable section

namespace Cert.ReferenceIdeal.Value

open Cert.Nms Idealize.ShloMosaic Idealize.ShloMosaic.TcCoe Idealize.ShloMosaic.Tactic
open Idealize.ShloMosaic.StableHlo Cert.ReferenceIdeal.Gen

/-- Box `k` of 6000 as an index of an array of 6000. -/
abbrev box (k : Fin 6000) : S6000.Idx := ix1 k

/-- The word of a box number, read as an integer, is the number. -/
theorem toInt_word (k : Fin 6000) : (BitVec.ofNat 32 k.val).toInt = k.val := by
  have := k.isLt
  rw [BitVec.toInt_eq_toNat_of_lt] <;> simp only [BitVec.toNat_ofNat] <;> omega

/-- An array of 6000 read at the number a trip carries is the array's entry of that number. -/
theorem pick {α : Type} (x : S6000.Idx → α) (k : Fin 6000) (i : IVec S_ 32) (hi : i = fun _ => BitVec.ofNat 32 k.val) (j : S_.Idx) :
    shapeCast S_ (Host.dynamicSlice S1 x (fun a => ((![select (cmpi .slt i (constantI S_ 32 0#32))
      (addi (id i) (constantI S_ 32 6000#32)) i] : Fin 1 → IVec S_ 32) a (Shape.Idx.first h_S_)).toInt)
      sliceFits_S6000_S1) shapeCasts_S1_S_ j = x (box k) := by
  have hst : (fun a : Fin 1 => ((![select (cmpi .slt i (constantI S_ 32 0#32))
      (addi (id i) (constantI S_ 32 6000#32)) i] : Fin 1 → IVec S_ 32) a (Shape.Idx.first h_S_)).toInt) = fun _ => (k.val : ℤ) := by
    funext a
    have ha : a = 0 := Subsingleton.elim _ _
    subst ha hi
    show (Scalar.select (BitVec.ofBool (BitVec.slt (BitVec.ofNat 32 k.val) 0#32)) _ (BitVec.ofNat 32 k.val)).toInt = _
    rw [BitVec.slt, toInt_word]
    have : decide ((k.val : ℤ) < (0#32 : BitVec 32).toInt) = false := by simp
    rw [this]
    show (BitVec.ofNat 32 k.val).toInt = _
    exact toInt_word k
  rw [hst]
  unfold Host.dynamicSlice shapeCast extractStridedSlice
  refine congrArg x (funext fun a => Fin.ext ?_)
  have ha : a = 0 := Subsingleton.elim _ _
  subst ha
  have hk := k.isLt
  show (min (max (k.val : ℤ) 0) ((6000 - 1 : ℕ) : ℤ)).toNat + (Fin.val (n := 1) _) = k.val
  omega

/-- The flags after the trip of box `k`, as one term of the arrays the loop carries. -/
def flagStep (x1 y1 x2 y2 ar : FVec Ideal S6000 .f32) (io : IVec S6000 32) (i : IVec S_ 32) (sp : IVec S6000 1)
    (k : Fin 6000) : IVec S6000 1 :=
  ori sp (andi (andi (cmpf .ogt (Host.divf (mulf
    (maximumf (subf (minimumf (broadcastInDim S6000 ![] bcast_S_S6000 fun _ : S_.Idx => x2 (box k)) x2) (maximumf (broadcastInDim S6000 ![] bcast_S_S6000 fun _ : S_.Idx => x1 (box k)) x1)) (broadcastInDim S6000 ![] bcast_S_S6000 (constant S_ .f32 0#32)))
    (maximumf (subf (minimumf (broadcastInDim S6000 ![] bcast_S_S6000 fun _ : S_.Idx => y2 (box k)) y2) (maximumf (broadcastInDim S6000 ![] bcast_S_S6000 fun _ : S_.Idx => y1 (box k)) y1)) (broadcastInDim S6000 ![] bcast_S_S6000 (constant S_ .f32 0#32))))
    (addf (subf (addf (broadcastInDim S6000 ![] bcast_S_S6000 fun _ : S_.Idx => ar (box k)) ar) (mulf
    (maximumf (subf (minimumf (broadcastInDim S6000 ![] bcast_S_S6000 fun _ : S_.Idx => x2 (box k)) x2) (maximumf (broadcastInDim S6000 ![] bcast_S_S6000 fun _ : S_.Idx => x1 (box k)) x1)) (broadcastInDim S6000 ![] bcast_S_S6000 (constant S_ .f32 0#32)))
    (maximumf (subf (minimumf (broadcastInDim S6000 ![] bcast_S_S6000 fun _ : S_.Idx => y2 (box k)) y2) (maximumf (broadcastInDim S6000 ![] bcast_S_S6000 fun _ : S_.Idx => y1 (box k)) y1)) (broadcastInDim S6000 ![] bcast_S_S6000 (constant S_ .f32 0#32))))) (broadcastInDim S6000 ![] bcast_S_S6000 (constant S_ .f32 0x3089705F#32))))
    (broadcastInDim S6000 ![] bcast_S_S6000 (constant S_ .f32 0x3F333333#32))) (cmpi .sgt io (broadcastInDim S6000 ![] bcast_S_S6000 i))) (broadcastInDim S6000 ![] bcast_S_S6000 (noti fun _ : S_.Idx => sp (box k))))

/-- One trip's flag of box `j`, in scalars. -/
theorem step8_apply (V0 : Valuation τ sig (Elt Ideal)) (k j : Fin 6000)
    (x1 y1 x2 y2 ar : FVec Ideal S6000 .f32) (io : IVec S6000 32) (i : IVec S_ 32) (sp : IVec S6000 1)
    (e0 : V0 (Proc.devRef .tc main_v184_0) = x1) (e1 : V0 (Proc.devRef .tc main_v184_1) = y1)
    (e2 : V0 (Proc.devRef .tc main_v184_2) = x2) (e3 : V0 (Proc.devRef .tc main_v184_3) = y2)
    (e4 : V0 (Proc.devRef .tc main_v184_4) = ar) (e5 : V0 (Proc.devRef .tc main_v184_5) = io)
    (f : IVec S6000 1) (ef : step_main_v184_8 V0 = f)
    (e7 : V0 (Proc.devRef .tc main_v184_7) = i) (e8 : V0 (Proc.devRef .tc main_v184_8) = sp)
    (hi : i = fun _ => BitVec.ofNat 32 k.val) (ho : ∀ j : Fin 6000, io (box j) = BitVec.ofNat 32 j.val)
    (ha : ∀ j : Fin 6000, ar (box j) = max (x2 (box j) - x1 (box j)) (0 : EReal) * max (y2 (box j) - y1 (box j)) (0 : EReal)) :
    f (box j) = IntOp.ori (sp (box j)) (IntOp.andi (IntOp.andi
      (BitVec.ofBool (decide (overlaps (x1 (box k)) (y1 (box k)) (x2 (box k)) (y2 (box k)) (x1 (box j)) (y1 (box j)) (x2 (box j)) (y2 (box j)))))
      (BitVec.ofBool (decide (k.val < j.val)))) (~~~ (sp (box k)))) := by
  have hp : ∀ {α : Type} (x : S6000.Idx → α), shapeCast S_ (Host.dynamicSlice S1 x (fun a => ((![select (cmpi .slt i (constantI S_ 32 0#32))
      (addi (id i) (constantI S_ 32 6000#32)) i] : Fin 1 → IVec S_ 32) a (Shape.Idx.first h_S_)).toInt)
      sliceFits_S6000_S1) shapeCasts_S1_S_ = fun _ => x (box k) := fun x => funext fun z => pick x k i hi z
  have key : f = flagStep x1 y1 x2 y2 ar io i sp k := by
    rw [← ef]
    unfold step_main_v184_8 res_main_while0b_v235
    rw [e0, e1, e2, e3, e4, e5, e7, e8]
    erw [hp, hp, hp, hp, hp, hp]
    rfl
  rw [key]
  have hlt : IntOp.cmpi .sgt (BitVec.ofNat 32 j.val) (BitVec.ofNat 32 k.val) = BitVec.ofBool (decide (k.val < j.val)) := by
    show BitVec.ofBool (BitVec.slt (BitVec.ofNat 32 k.val) (BitVec.ofNat 32 j.val)) = _
    rw [BitVec.slt, toInt_word, toInt_word]
    simp
  rw [← hlt, ← ho j, hi]
  have hov : overlaps (x1 (box k)) (y1 (box k)) (x2 (box k)) (y2 (box k)) (x1 (box j)) (y1 (box j)) (x2 (box j)) (y2 (box j))
      = (Ideal.ofBits .f32 1060320051#32 < Ideal.div
        (inter (x1 (box k)) (y1 (box k)) (x2 (box k)) (y2 (box k)) (x1 (box j)) (y1 (box j)) (x2 (box j)) (y2 (box j)))
        (ar (box k) + ar (box j)
          - inter (x1 (box k)) (y1 (box k)) (x2 (box k)) (y2 (box k)) (x1 (box j)) (y1 (box j)) (x2 (box j)) (y2 (box j))
          + Ideal.ofBits .f32 814313567#32)) := by
    rw [ha, ha]; rfl
  simp only [hov]
  unfold inter flagStep box
  pointwise

/-- After `n` trips the carried flags say which boxes are suppressed; the coordinates stay, and the trip number counts. -/
theorem loop_flags (V0 : Valuation τ sig (Elt Ideal)) (x1 y1 x2 y2 ar : FVec Ideal S6000 .f32) (io : IVec S6000 32)
    (e0 : V0 (Proc.devRef .tc main_v184_0) = x1) (e1 : V0 (Proc.devRef .tc main_v184_1) = y1)
    (e2 : V0 (Proc.devRef .tc main_v184_2) = x2) (e3 : V0 (Proc.devRef .tc main_v184_3) = y2)
    (e4 : V0 (Proc.devRef .tc main_v184_4) = ar) (e5 : V0 (Proc.devRef .tc main_v184_5) = io)
    (e7 : V0 (Proc.devRef .tc main_v184_7) = (fun _ => 0#32 : IVec S_ 32))
    (e8 : V0 (Proc.devRef .tc main_v184_8) = (fun _ => 0#1 : IVec S6000 1))
    (ho : ∀ j : Fin 6000, io (box j) = BitVec.ofNat 32 j.val)
    (ha : ∀ j : Fin 6000, ar (box j) = max (x2 (box j) - x1 (box j)) (0 : EReal) * max (y2 (box j) - y1 (box j)) (0 : EReal))
    (n : ℕ) (hn : n ≤ 6000) :
    (STEP^[n] V0 (Proc.devRef .tc main_v184_0) = x1 ∧ STEP^[n] V0 (Proc.devRef .tc main_v184_1) = y1 ∧
      STEP^[n] V0 (Proc.devRef .tc main_v184_2) = x2 ∧ STEP^[n] V0 (Proc.devRef .tc main_v184_3) = y2 ∧
      STEP^[n] V0 (Proc.devRef .tc main_v184_4) = ar ∧ STEP^[n] V0 (Proc.devRef .tc main_v184_5) = io) ∧
    STEP^[n] V0 (Proc.devRef .tc main_v184_7) = (fun _ => BitVec.ofNat 32 n : IVec S_ 32) ∧
    ∀ f : IVec S6000 1, STEP^[n] V0 (Proc.devRef .tc main_v184_8) = f → ∀ j : Fin 6000, f (box j) = BitVec.ofBool (decide
      (suppressed (fun k => x1 (box k)) (fun k => y1 (box k)) (fun k => x2 (box k)) (fun k => y2 (box k)) n j)) := by
  induction n with
  | zero =>
    refine ⟨⟨e0, e1, e2, e3, e4, e5⟩, e7, fun f hf j => ?_⟩
    have : f = fun _ => 0#1 := hf.symm.trans e8
    subst this
    rw [decide_eq_false (fun h : suppressed _ _ _ _ 0 j => h)]
    rfl
  | succ n ih =>
    obtain ⟨⟨h0, h1, h2, h3, h4, h5⟩, h7, h8⟩ := ih (by omega)
    simp only [Function.iterate_succ_apply']
    generalize STEP^[n] V0 = V at h0 h1 h2 h3 h4 h5 h7 h8
    refine ⟨⟨?_, ?_, ?_, ?_, ?_, ?_⟩, ?_, ?_⟩
    · rw [STEP_main_v184_0]; exact h0
    · rw [STEP_main_v184_1]; exact h1
    · rw [STEP_main_v184_2]; exact h2
    · rw [STEP_main_v184_3]; exact h3
    · rw [STEP_main_v184_4]; exact h4
    · rw [STEP_main_v184_5]; exact h5
    · rw [STEP_main_v184_7]
      unfold step_main_v184_7
      rw [h7]
      funext z
      show BitVec.ofNat 32 n + 1#32 = BitVec.ofNat 32 (n + 1)
      apply BitVec.eq_of_toNat_eq
      simp only [BitVec.toNat_add, BitVec.toNat_ofNat]
      omega
    · rw [STEP_main_v184_8]
      intro f hf j
      have hlt : n < 6000 := by omega
      rw [step8_apply V ⟨n, hlt⟩ j x1 y1 x2 y2 ar io _ _ h0 h1 h2 h3 h4 h5 f hf h7 rfl rfl ho ha, h8 _ rfl, h8 _ rfl]
      simp only [suppressed_succ _ _ _ _ n hlt]
      by_cases p : suppressed (fun k => x1 (box k)) (fun k => y1 (box k)) (fun k => x2 (box k)) (fun k => y2 (box k)) n j <;>
        by_cases q : suppressed (fun k => x1 (box k)) (fun k => y1 (box k)) (fun k => x2 (box k)) (fun k => y2 (box k)) n ⟨n, hlt⟩ <;>
        by_cases o : overlaps (x1 (box ⟨n, hlt⟩)) (y1 (box ⟨n, hlt⟩)) (x2 (box ⟨n, hlt⟩)) (y2 (box ⟨n, hlt⟩)) (x1 (box j)) (y1 (box j)) (x2 (box j)) (y2 (box j)) <;>
        by_cases l : n < j.val <;>
        simp [p, q, o, l, IntOp.ori, IntOp.andi]

end Cert.ReferenceIdeal.Value
end
-- ==== Proof.ReferenceTail.lean ====
module

public import proofs.«01_k».proof.Defs
public import proofs.«01_k».proof.Proof.Gen.ReferenceIdeal.Run
public import proofs.«01_k».proof.Proof.ReferenceRun
public import proofs.«01_k».proof.Proof.ReferenceNms
public import Idealize.ShloMosaic.Lib.Pointwise

@[expose] public section

set_option maxRecDepth 16384

noncomputable section

namespace Cert.ReferenceIdeal.Value

open Cert.Nms Idealize.ShloMosaic Idealize.ShloMosaic.TcCoe Idealize.ShloMosaic.Tactic
open Idealize.ShloMosaic.StableHlo Cert.ReferenceIdeal.Gen

/-- A table position as the gather reads it: a negative one counts from the end of `n` rows. -/
def wrapped6000 (i : IVec S6000 32) : IVec S6000x1 32 :=
  broadcastInDim S6000x1 ![0] bcast_S6000_S6000x1_0
    (select (cmpi .slt i (broadcastInDim S6000 ![] bcast_S_S6000 (constantI S_ 32 0#32)))
      (addi i (broadcastInDim S6000 ![] bcast_S_S6000 (constantI S_ 32 22500#32))) i)

/-- The 6000 best scores, in order. -/
def bestScores (s : FVec Ideal S22500 .f32) : FVec Ideal S6000 .f32 :=
  (Host.topK S6000 0 (FloatOps.cmpfTotal .gt) s sliceFits_S22500_S6000).1

/-- The boxes of the 6000 best scores, in order. -/
def bestBoxes (s : FVec Ideal S22500 .f32) (p : FVec Ideal S22500x4 .f32) :
    FVec Ideal S6000x4 .f32 :=
  Host.gather gather_S22500x4_S6000x1_S6000x4_1_0_n_n_0_1_14 p
    (wrapped6000 (Host.topK S6000 0 (FloatOps.cmpfTotal .gt) s sliceFits_S22500_S6000).2)

/-- Coordinate 0 of each of the 6000 boxes. -/
def edge0 (b : FVec Ideal S6000x4 .f32) : FVec Ideal S6000 .f32 :=
  shapeCast S6000 (extractStridedSlice S6000x1 ![0, 0] b slices_S6000x4_S6000x1_0_0) shapeCasts_S6000x1_S6000

/-- Coordinate 1 of each of the 6000 boxes. -/
def edge1 (b : FVec Ideal S6000x4 .f32) : FVec Ideal S6000 .f32 :=
  shapeCast S6000 (extractStridedSlice S6000x1 ![0, 1] b slices_S6000x4_S6000x1_0_1) shapeCasts_S6000x1_S6000

/-- Coordinate 2 of each of the 6000 boxes. -/
def edge2 (b : FVec Ideal S6000x4 .f32) : FVec Ideal S6000 .f32 :=
  shapeCast S6000 (extractStridedSlice S6000x1 ![0, 2] b slices_S6000x4_S6000x1_0_2) shapeCasts_S6000x1_S6000

/-- Coordinate 3 of each of the 6000 boxes. -/
def edge3 (b : FVec Ideal S6000x4 .f32) : FVec Ideal S6000 .f32 :=
  shapeCast S6000 (extractStridedSlice S6000x1 ![0, 3] b slices_S6000x4_S6000x1_0_3) shapeCasts_S6000x1_S6000

/-- The 2000 best of the masked scores beside their boxes. -/
def kept (b : FVec Ideal S6000x4 .f32) (s : FVec Ideal S6000 .f32) :
    FVec Ideal S2000x5 .f32 :=
  concatenate S2000x5 1
    [⟨S2000x4, Host.gather gather_S6000x4_S2000x1_S2000x4_1_0_n_n_0_1_14 b (broadcastInDim S2000x1 ![0] bcast_S2000_S2000x1_0
        (select (cmpi .slt (Host.topK S2000 0 (FloatOps.cmpfTotal .gt) s sliceFits_S6000_S2000).2
            (broadcastInDim S2000 ![] bcast_S_S2000 (constantI S_ 32 0#32)))
          (addi (Host.topK S2000 0 (FloatOps.cmpfTotal .gt) s sliceFits_S6000_S2000).2
            (broadcastInDim S2000 ![] bcast_S_S2000 (constantI S_ 32 6000#32)))
          (Host.topK S2000 0 (FloatOps.cmpfTotal .gt) s sliceFits_S6000_S2000).2))⟩,
     ⟨S2000x1, broadcastInDim S2000x1 ![0] bcast_S2000_S2000x1_0 (Host.topK S2000 0 (FloatOps.cmpfTotal .gt) s sliceFits_S6000_S2000).1⟩]
    concatenates_S2000x4_S2000x1_S2000x5_d1
/-- Four lists side by side. -/
def boxes4 (a b c d : FVec Ideal S22500 .f32) : FVec Ideal S22500x4 .f32 :=
  concatenate S22500x4 1 [⟨S22500x1, broadcastInDim S22500x1 ![0] bcast_S22500_S22500x1_0 a⟩,
    ⟨S22500x1, broadcastInDim S22500x1 ![0] bcast_S22500_S22500x1_0 b⟩,
    ⟨S22500x1, broadcastInDim S22500x1 ![0] bcast_S22500_S22500x1_0 c⟩,
    ⟨S22500x1, broadcastInDim S22500x1 ![0] bcast_S22500_S22500x1_0 d⟩] concatenates_S22500x1_S22500x1_S22500x1_S22500x1_S22500x4_d1

/-- The logistic function of every class logit. -/
def sigmoids (x : FVec Ideal S22500 .f32) : FVec Ideal S22500 .f32 :=
  Host.divf (broadcastInDim S22500 ![] bcast_S_S22500 (constant (F := Ideal) S_ .f32 0x3F800000#32))
    (addf (broadcastInDim S22500 ![] bcast_S_S22500 (constant (F := Ideal) S_ .f32 0x3F800000#32)) (Host.exp (Host.negf x)))

/-- The areas of boxes given by their edges. -/
def areas (x1 y1 x2 y2 : FVec Ideal S6000 .f32) : FVec Ideal S6000 .f32 :=
  mulf (maximumf (subf x2 x1) (broadcastInDim S6000 ![] bcast_S_S6000 (constant (F := Ideal) S_ .f32 0x00000000#32)))
    (maximumf (subf y2 y1) (broadcastInDim S6000 ![] bcast_S_S6000 (constant (F := Ideal) S_ .f32 0x00000000#32)))

/-- The scores with those of flagged boxes replaced by the fill. -/
def maskBy (f : IVec S6000 1) (s : FVec Ideal S6000 .f32) : FVec Ideal S6000 .f32 :=
  select (noti f) s (broadcastInDim S6000 ![] bcast_S_S6000 (constant (F := Ideal) S_ .f32 0xCE6E6B28#32))

section Stretches
variable (V : Valuation τ sig (Elt Ideal))

/-- All boxes of the anchors, from the contents before the last stretch ahead of the loop. -/
def boxesOf : FVec Ideal S22500x4 .f32 :=
  boxes4 (V (Proc.devRef .tc main_v136)) (V (Proc.devRef .tc main_v140)) (V (Proc.devRef .tc main_v144)) (V (Proc.devRef .tc main_v148))

/-- All scores of the anchors, from the contents before the last stretch ahead of the loop. -/
def scoresOf : FVec Ideal S22500 .f32 := sigmoids (V (Proc.devRef .tc main_v63))

theorem entry_values : StableHlo.after hostOps0_16 V (Proc.devRef .tc main_values)
    = bestScores (scoresOf V) := by
  after_results
  rfl

theorem entry_v166 : StableHlo.after hostOps0_16 V (Proc.devRef .tc main_v166)
    = bestBoxes (scoresOf V) (boxesOf V) := by
  after_results
  rfl

theorem entry_v184_0 : StableHlo.after hostOps0_16 V (Proc.devRef .tc main_v184_0)
    = edge0 (bestBoxes (scoresOf V) (boxesOf V)) := by
  after_results
  rfl

theorem entry_v184_1 : StableHlo.after hostOps0_16 V (Proc.devRef .tc main_v184_1)
    = edge1 (bestBoxes (scoresOf V) (boxesOf V)) := by
  after_results
  rfl

theorem entry_v184_2 : StableHlo.after hostOps0_16 V (Proc.devRef .tc main_v184_2)
    = edge2 (bestBoxes (scoresOf V) (boxesOf V)) := by
  after_results
  rfl

theorem entry_v184_3 : StableHlo.after hostOps0_16 V (Proc.devRef .tc main_v184_3)
    = edge3 (bestBoxes (scoresOf V) (boxesOf V)) := by
  after_results
  rfl

theorem entry_v184_4 : StableHlo.after hostOps0_16 V (Proc.devRef .tc main_v184_4)
    = areas (edge0 (bestBoxes (scoresOf V) (boxesOf V))) (edge1 (bestBoxes (scoresOf V) (boxesOf V))) (edge2 (bestBoxes (scoresOf V) (boxesOf V))) (edge3 (bestBoxes (scoresOf V) (boxesOf V))) := by
  after_results
  rfl

theorem entry_v184_5 : StableHlo.after hostOps0_16 V (Proc.devRef .tc main_v184_5)
    = (iotaInDim S6000 32 0 : IVec S6000 32) := by
  after_results
  rfl

theorem entry_v184_7 : StableHlo.after hostOps0_16 V (Proc.devRef .tc main_v184_7)
    = (fun _ => 0#32 : IVec S_ 32) := by
  after_results
  rfl

theorem entry_v184_8 : StableHlo.after hostOps0_16 V (Proc.devRef .tc main_v184_8)
    = (fun _ => 0#1 : IVec S6000 1) := by
  after_results
  rfl

theorem post_masked : StableHlo.after hostOps0_18 (StableHlo.after hostOps0_17 V) (Proc.devRef .tc main_v186)
    = maskBy (V (Proc.devRef .tc main_v184_8)) (V (Proc.devRef .tc main_values)) := by
  after_results
  rfl

theorem post_result : StableHlo.after hostOps0_19 V (Proc.devRef .tc main_v195)
    = kept (V (Proc.devRef .tc main_v166)) (V (Proc.devRef .tc main_v186)) := by
  after_results
  rfl
end Stretches

theorem area_apply (x1 y1 x2 y2 : FVec Ideal S6000 .f32) (j : Fin 6000) : areas x1 y1 x2 y2 (box j)
    = max (x2 (box j) - x1 (box j)) (0 : EReal) * max (y2 (box j) - y1 (box j)) (0 : EReal) := by
  unfold areas box
  pointwise

theorem iota_apply (j : Fin 6000) : (iotaInDim S6000 32 0 : IVec S6000 32) (box j) = BitVec.ofNat 32 j.val := by
  unfold box
  pointwise

theorem maskBy_apply (f : IVec S6000 1) (s : FVec Ideal S6000 .f32) (p : Prop) [Decidable p] (j : Fin 6000)
    (h : f (box j) = BitVec.ofBool (decide p)) :
    maskBy f s (box j) = if p then Ideal.ofBits .f32 0xCE6E6B28#32 else s (box j) := by
  have e : maskBy f s (box j) = if (~~~ f (box j)) = 1#1 then s (box j) else Ideal.ofBits .f32 0xCE6E6B28#32 := by
    unfold maskBy box
    pointwise
    rfl
  rw [e, h]
  by_cases hp : p
  · simp [hp]
  · simp [hp]

section Boundaries
variable (m : (ℓ : Loc nD τ sig) → Buf (Elt Ideal) ℓ) (c : Dev nD)

/-- The contents before the last stretch ahead of the loop. -/
def E16 : Valuation τ sig (Elt Ideal) :=
  entryContents [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15] m c

theorem entry_eq : entryContents preI m c = after hostOps0_16 (E16 m c) := rfl

/-- All scores of the anchors. -/
def scoresR : FVec Ideal S22500 .f32 := scoresOf (E16 m c)
/-- All boxes of the anchors. -/
def boxesR : FVec Ideal S22500x4 .f32 := boxesOf (E16 m c)

/-- The reference's result, from all scores and boxes: the masked scores hold the fill exactly at the suppressed boxes. -/
theorem result_at : ∃ M : FVec Ideal S6000 .f32,
    finalContents condOps preI bodyI postI 6000 m c (Proc.devRef .tc main_v195) = kept (bestBoxes (scoresR m c) (boxesR m c)) M
    ∧ ∀ j : Fin 6000, M (box j) = if suppressed (fun k => edge0 (bestBoxes (scoresR m c) (boxesR m c)) (box k))
        (fun k => edge1 (bestBoxes (scoresR m c) (boxesR m c)) (box k)) (fun k => edge2 (bestBoxes (scoresR m c) (boxesR m c)) (box k))
        (fun k => edge3 (bestBoxes (scoresR m c) (boxesR m c)) (box k)) 6000 j
      then Ideal.ofBits .f32 0xCE6E6B28#32 else bestScores (scoresR m c) (box j) := by
  have flags := (loop_flags (entryContents preI m c) _ _ _ _ _ _ (entry_v184_0 (E16 m c)) (entry_v184_1 (E16 m c)) (entry_v184_2 (E16 m c))
    (entry_v184_3 (E16 m c)) (entry_v184_4 (E16 m c)) (entry_v184_5 (E16 m c)) (entry_v184_7 (E16 m c)) (entry_v184_8 (E16 m c))
    iota_apply (area_apply _ _ _ _) 6000 le_rfl).2.2
  have agree : atK m 6000 c (Proc.devRef .tc main_v184_8) = STEP^[6000] (entryContents preI m c) (Proc.devRef .tc main_v184_8) :=
    atK_agree m c 6000 main_v184_8 (by decide)
  have hb : atK m 6000 c (Proc.devRef .tc main_v166) = bestBoxes (scoresR m c) (boxesR m c) :=
    (atK_keep m c main_v166 (by decide) (by decide) 6000).trans (entry_v166 (E16 m c))
  have hs : atK m 6000 c (Proc.devRef .tc main_values) = bestScores (scoresR m c) :=
    (atK_keep m c main_values (by decide) (by decide) 6000).trans (entry_values (E16 m c))
  generalize hf : STEP^[6000] (entryContents preI m c) (Proc.devRef .tc main_v184_8) = f at agree flags
  refine ⟨maskBy f (bestScores (scoresR m c)), ?_, fun j => maskBy_apply f _ _ j (flags f rfl j)⟩
  have cb : after condOps (atK m 6000 c) (Proc.devRef .tc main_v166) = bestBoxes (scoresR m c) (boxesR m c) :=
    (after_of_writes_sub condOps _ condOps_writes (by decide)).trans hb
  have cs : after condOps (atK m 6000 c) (Proc.devRef .tc main_values) = bestScores (scoresR m c) :=
    (after_of_writes_sub condOps _ condOps_writes (by decide)).trans hs
  have cf : after condOps (atK m 6000 c) (Proc.devRef .tc main_v184_8) = f :=
    (after_of_writes_sub condOps _ condOps_writes (by decide)).trans agree
  show after hostOps0_19 (after hostOps0_18 (after hostOps0_17 (after condOps (atK m 6000 c)))) (Proc.devRef .tc main_v195) = _
  rw [post_result, post_masked, cf, cs, after_of_writes_sub hostOps0_18 _ hostOps0_18_writes (by decide),
    after_of_writes_sub hostOps0_17 _ hostOps0_17_writes (by decide), cb]

end Boundaries

end Cert.ReferenceIdeal.Value
end
-- ==== Proof.ReferenceStretches.lean ====
module

public import proofs.«01_k».proof.Proof.ReferenceHead
public import proofs.«01_k».proof.Proof.ReferenceRun
public import proofs.«01_k».proof.Proof.ReferenceTail
public import Idealize.ShloMosaic.Lib.Pointwise

@[expose] public section

set_option maxRecDepth 16384

noncomputable section

/-! What the reference's host operations before the ranking leave in its scores and boxes. -/

namespace Cert.ReferenceIdeal.Value

open Cert.Head Idealize.ShloMosaic Idealize.ShloMosaic.TcCoe Idealize.ShloMosaic.Tactic
open Idealize.ShloMosaic.StableHlo Cert.ReferenceIdeal.Gen

section Stretches
variable (V : Valuation τ sig (Elt Ideal))

theorem s0_main_cst : after hostOps0 V (Proc.devRef .tc main_cst)
    = (fun i => Ideal.ofBits .f32 (lit0 (S9x4.rowMajor i)) : FVec Ideal S9x4 .f32) := by
  after_results
  rfl

theorem s0_main_v0 : after hostOps0 V (Proc.devRef .tc main_v0)
    = shapeCast S256x50x50 (V (Proc.devRef .tc main_arg1)) shapeCasts_S1x256x50x50_S256x50x50 := by
  after_results
  rfl

theorem s0_main_c : after hostOps0 V (Proc.devRef .tc main_c)
    = constantI S_ 32 0#32 := by
  after_results

theorem s1_main_v1 : after hostOps0_1 V (Proc.devRef .tc main_v1)
    = pad S256x52x52 ![0, 1, 1] ![0, 1, 1] ![0, 0, 0] (V (Proc.devRef .tc main_v0)) (sitofp (F := Ideal) .f32 (V (Proc.devRef .tc main_c)) : FVec Ideal S_ .f32) pads_S256x50x50_S256x52x52_000_110_110 h_S_ := by
  after_results
  rfl

theorem s2_main_v48 : after hostOps0_2 V (Proc.devRef .tc main_v48)
    = hiddens (V (Proc.devRef .tc main_arg2)) (V (Proc.devRef .tc main_arg3)) (V (Proc.devRef .tc main_v1)) := by
  after_results
  rfl

theorem s3_main_v49 : after hostOps0_3 V (Proc.devRef .tc main_v49)
    = rectified (V (Proc.devRef .tc main_v48)) := by
  after_results
  rfl

theorem s4_main_c_0 : after hostOps0_4 V (Proc.devRef .tc main_c_0)
    = constantI S_ 32 0#32 := by
  after_results

theorem s5_main_v50 : after hostOps0_5 V (Proc.devRef .tc main_v50)
    = pad S256x50x50 ![0, 0, 0] ![0, 0, 0] ![0, 0, 0] (V (Proc.devRef .tc main_v49)) (sitofp (F := Ideal) .f32 (V (Proc.devRef .tc main_c_0)) : FVec Ideal S_ .f32) pads_S256x50x50_S256x50x50_000_000_000 h_S_ := by
  after_results
  rfl

theorem s6_main_v55 : after hostOps0_6 V (Proc.devRef .tc main_v55)
    = classes (V (Proc.devRef .tc main_arg4)) (V (Proc.devRef .tc main_arg5)) (V (Proc.devRef .tc main_v50)) := by
  after_results
  rfl

theorem s6_main_c_1 : after hostOps0_6 V (Proc.devRef .tc main_c_1)
    = constantI S_ 32 0#32 := by
  after_results

theorem s7_main_v56 : after hostOps0_7 V (Proc.devRef .tc main_v56)
    = pad S256x50x50 ![0, 0, 0] ![0, 0, 0] ![0, 0, 0] (V (Proc.devRef .tc main_v49)) (sitofp (F := Ideal) .f32 (V (Proc.devRef .tc main_c_1)) : FVec Ideal S_ .f32) pads_S256x50x50_S256x50x50_000_000_000 h_S_ := by
  after_results
  rfl

theorem s8_main_v63 : after hostOps0_8 V (Proc.devRef .tc main_v63)
    = classList (V (Proc.devRef .tc main_v55)) := by
  after_results
  rfl

set_option maxHeartbeats 4000000 in
theorem s8_main_v126 : after hostOps0_8 V (Proc.devRef .tc main_v126)
    = centres (column0 (offsetList (V (Proc.devRef .tc main_arg6)) (V (Proc.devRef .tc main_arg7)) (V (Proc.devRef .tc main_v56)))) (column0 (anchors (V (Proc.devRef .tc main_cst)))) (column2 (anchors (V (Proc.devRef .tc main_cst)))) := by
  after_results
  rfl

set_option maxHeartbeats 4000000 in
theorem s8_main_v128 : after hostOps0_8 V (Proc.devRef .tc main_v128)
    = centres (column1 (offsetList (V (Proc.devRef .tc main_arg6)) (V (Proc.devRef .tc main_arg7)) (V (Proc.devRef .tc main_v56)))) (column1 (anchors (V (Proc.devRef .tc main_cst)))) (column3 (anchors (V (Proc.devRef .tc main_cst)))) := by
  after_results
  rfl

set_option maxHeartbeats 4000000 in
theorem s8_main_v130 : after hostOps0_8 V (Proc.devRef .tc main_v130)
    = extents (column2 (offsetList (V (Proc.devRef .tc main_arg6)) (V (Proc.devRef .tc main_arg7)) (V (Proc.devRef .tc main_v56)))) (column0 (anchors (V (Proc.devRef .tc main_cst)))) (column2 (anchors (V (Proc.devRef .tc main_cst)))) := by
  after_results
  rfl

set_option maxHeartbeats 4000000 in
theorem s8_main_v132 : after hostOps0_8 V (Proc.devRef .tc main_v132)
    = extents (column3 (offsetList (V (Proc.devRef .tc main_arg6)) (V (Proc.devRef .tc main_arg7)) (V (Proc.devRef .tc main_v56)))) (column1 (anchors (V (Proc.devRef .tc main_cst)))) (column3 (anchors (V (Proc.devRef .tc main_cst)))) := by
  after_results
  rfl

set_option maxHeartbeats 4000000 in
theorem s8_main_v135 : after hostOps0_8 V (Proc.devRef .tc main_v135)
    = subf (centres (column0 (offsetList (V (Proc.devRef .tc main_arg6)) (V (Proc.devRef .tc main_arg7)) (V (Proc.devRef .tc main_v56)))) (column0 (anchors (V (Proc.devRef .tc main_cst)))) (column2 (anchors (V (Proc.devRef .tc main_cst))))) (halved (extents (column2 (offsetList (V (Proc.devRef .tc main_arg6)) (V (Proc.devRef .tc main_arg7)) (V (Proc.devRef .tc main_v56)))) (column0 (anchors (V (Proc.devRef .tc main_cst)))) (column2 (anchors (V (Proc.devRef .tc main_cst)))))) := by
  after_results
  rfl

theorem s8_main_cst_11 : after hostOps0_8 V (Proc.devRef .tc main_cst_11)
    = constant (F := Ideal) S_ .f32 0x00000000#32 := by
  after_results

theorem s8_main_cst_12 : after hostOps0_8 V (Proc.devRef .tc main_cst_12)
    = constant (F := Ideal) S_ .f32 0x44480000#32 := by
  after_results

theorem s9_main_v136 : after hostOps0_9 V (Proc.devRef .tc main_v136)
    = cut (V (Proc.devRef .tc main_v135)) (V (Proc.devRef .tc main_cst_11)) (V (Proc.devRef .tc main_cst_12)) := by
  after_results
  rfl

theorem s10_main_cst_14 : after hostOps0_10 V (Proc.devRef .tc main_cst_14)
    = constant (F := Ideal) S_ .f32 0x00000000#32 := by
  after_results

theorem s10_main_cst_15 : after hostOps0_10 V (Proc.devRef .tc main_cst_15)
    = constant (F := Ideal) S_ .f32 0x44480000#32 := by
  after_results

theorem s11_main_v140 : after hostOps0_11 V (Proc.devRef .tc main_v140)
    = cut (V (Proc.devRef .tc main_v139)) (V (Proc.devRef .tc main_cst_14)) (V (Proc.devRef .tc main_cst_15)) := by
  after_results
  rfl

theorem s12_main_cst_17 : after hostOps0_12 V (Proc.devRef .tc main_cst_17)
    = constant (F := Ideal) S_ .f32 0x00000000#32 := by
  after_results

theorem s12_main_cst_18 : after hostOps0_12 V (Proc.devRef .tc main_cst_18)
    = constant (F := Ideal) S_ .f32 0x44480000#32 := by
  after_results

theorem s13_main_v144 : after hostOps0_13 V (Proc.devRef .tc main_v144)
    = cut (V (Proc.devRef .tc main_v143)) (V (Proc.devRef .tc main_cst_17)) (V (Proc.devRef .tc main_cst_18)) := by
  after_results
  rfl

theorem s14_main_cst_20 : after hostOps0_14 V (Proc.devRef .tc main_cst_20)
    = constant (F := Ideal) S_ .f32 0x00000000#32 := by
  after_results

theorem s14_main_cst_21 : after hostOps0_14 V (Proc.devRef .tc main_cst_21)
    = constant (F := Ideal) S_ .f32 0x44480000#32 := by
  after_results

theorem s15_main_v148 : after hostOps0_15 V (Proc.devRef .tc main_v148)
    = cut (V (Proc.devRef .tc main_v147)) (V (Proc.devRef .tc main_cst_20)) (V (Proc.devRef .tc main_cst_21)) := by
  after_results
  rfl

theorem s10_main_v139 : after hostOps0_10 V (Proc.devRef .tc main_v139)
    = subf (V (Proc.devRef .tc main_v128)) (halved (V (Proc.devRef .tc main_v132))) := by
  after_results
  rfl

theorem s12_main_v143 : after hostOps0_12 V (Proc.devRef .tc main_v143)
    = addf (V (Proc.devRef .tc main_v126)) (halved (V (Proc.devRef .tc main_v130))) := by
  after_results
  rfl

theorem s14_main_v147 : after hostOps0_14 V (Proc.devRef .tc main_v147)
    = addf (V (Proc.devRef .tc main_v128)) (halved (V (Proc.devRef .tc main_v132))) := by
  after_results
  rfl

end Stretches

end Cert.ReferenceIdeal.Value

end
-- ==== Proof.ReferenceAnchors.lean ====
module

public import proofs.«01_k».proof.Proof.ReferenceStretches
public import Idealize.ShloMosaic.Lib.Pointwise

@[expose] public section

set_option maxRecDepth 16384

noncomputable section

/-! The score and the box of every anchor in the reference, from the program's arguments. -/

namespace Cert.ReferenceIdeal.Value

open Cert.Head Idealize.ShloMosaic Idealize.ShloMosaic.TcCoe Idealize.ShloMosaic.Tactic
open Idealize.ShloMosaic.StableHlo Cert.ReferenceIdeal.Gen

variable (m : (ℓ : Loc nD τ sig) → Buf (Elt Ideal) ℓ) (c : Dev nD)

/-- The buffers at the launch, and after each stretch. -/
abbrev U : Valuation τ sig (Elt Ideal) := launchContents m c
abbrev U0 : Valuation τ sig (Elt Ideal) := after hostOps0 (U m c)
abbrev U1 : Valuation τ sig (Elt Ideal) := after hostOps0_1 (U0 m c)
abbrev U2 : Valuation τ sig (Elt Ideal) := after hostOps0_2 (U1 m c)
abbrev U3 : Valuation τ sig (Elt Ideal) := after hostOps0_3 (U2 m c)
abbrev U4 : Valuation τ sig (Elt Ideal) := after hostOps0_4 (U3 m c)
abbrev U5 : Valuation τ sig (Elt Ideal) := after hostOps0_5 (U4 m c)
abbrev U6 : Valuation τ sig (Elt Ideal) := after hostOps0_6 (U5 m c)
abbrev U7 : Valuation τ sig (Elt Ideal) := after hostOps0_7 (U6 m c)
abbrev U8 : Valuation τ sig (Elt Ideal) := after hostOps0_8 (U7 m c)
abbrev U9 : Valuation τ sig (Elt Ideal) := after hostOps0_9 (U8 m c)
abbrev U10 : Valuation τ sig (Elt Ideal) := after hostOps0_10 (U9 m c)
abbrev U11 : Valuation τ sig (Elt Ideal) := after hostOps0_11 (U10 m c)
abbrev U12 : Valuation τ sig (Elt Ideal) := after hostOps0_12 (U11 m c)
abbrev U13 : Valuation τ sig (Elt Ideal) := after hostOps0_13 (U12 m c)
abbrev U14 : Valuation τ sig (Elt Ideal) := after hostOps0_14 (U13 m c)
abbrev U15 : Valuation τ sig (Elt Ideal) := after hostOps0_15 (U14 m c)

theorem E16_eq : E16 m c = U15 m c := rfl
theorem U0_of (r : Ref sig .tc) (h : r ∉ hostOps0_W) : U0 m c (Proc.devRef .tc r) = U m c (Proc.devRef .tc r) :=
  after_of_writes_sub hostOps0 _ hostOps0_writes h
theorem U1_of (r : Ref sig .tc) (h : r ∉ hostOps0_1_W) : U1 m c (Proc.devRef .tc r) = U0 m c (Proc.devRef .tc r) :=
  after_of_writes_sub hostOps0_1 _ hostOps0_1_writes h
theorem U2_of (r : Ref sig .tc) (h : r ∉ hostOps0_2_W) : U2 m c (Proc.devRef .tc r) = U1 m c (Proc.devRef .tc r) :=
  after_of_writes_sub hostOps0_2 _ hostOps0_2_writes h
theorem U3_of (r : Ref sig .tc) (h : r ∉ hostOps0_3_W) : U3 m c (Proc.devRef .tc r) = U2 m c (Proc.devRef .tc r) :=
  after_of_writes_sub hostOps0_3 _ hostOps0_3_writes h
theorem U4_of (r : Ref sig .tc) (h : r ∉ hostOps0_4_W) : U4 m c (Proc.devRef .tc r) = U3 m c (Proc.devRef .tc r) :=
  after_of_writes_sub hostOps0_4 _ hostOps0_4_writes h
theorem U5_of (r : Ref sig .tc) (h : r ∉ hostOps0_5_W) : U5 m c (Proc.devRef .tc r) = U4 m c (Proc.devRef .tc r) :=
  after_of_writes_sub hostOps0_5 _ hostOps0_5_writes h
theorem U6_of (r : Ref sig .tc) (h : r ∉ hostOps0_6_W) : U6 m c (Proc.devRef .tc r) = U5 m c (Proc.devRef .tc r) :=
  after_of_writes_sub hostOps0_6 _ hostOps0_6_writes h
theorem U7_of (r : Ref sig .tc) (h : r ∉ hostOps0_7_W) : U7 m c (Proc.devRef .tc r) = U6 m c (Proc.devRef .tc r) :=
  after_of_writes_sub hostOps0_7 _ hostOps0_7_writes h
theorem U8_of (r : Ref sig .tc) (h : r ∉ hostOps0_8_W) : U8 m c (Proc.devRef .tc r) = U7 m c (Proc.devRef .tc r) :=
  after_of_writes_sub hostOps0_8 _ hostOps0_8_writes h
theorem U9_of (r : Ref sig .tc) (h : r ∉ hostOps0_9_W) : U9 m c (Proc.devRef .tc r) = U8 m c (Proc.devRef .tc r) :=
  after_of_writes_sub hostOps0_9 _ hostOps0_9_writes h
theorem U10_of (r : Ref sig .tc) (h : r ∉ hostOps0_10_W) : U10 m c (Proc.devRef .tc r) = U9 m c (Proc.devRef .tc r) :=
  after_of_writes_sub hostOps0_10 _ hostOps0_10_writes h
theorem U11_of (r : Ref sig .tc) (h : r ∉ hostOps0_11_W) : U11 m c (Proc.devRef .tc r) = U10 m c (Proc.devRef .tc r) :=
  after_of_writes_sub hostOps0_11 _ hostOps0_11_writes h
theorem U12_of (r : Ref sig .tc) (h : r ∉ hostOps0_12_W) : U12 m c (Proc.devRef .tc r) = U11 m c (Proc.devRef .tc r) :=
  after_of_writes_sub hostOps0_12 _ hostOps0_12_writes h
theorem U13_of (r : Ref sig .tc) (h : r ∉ hostOps0_13_W) : U13 m c (Proc.devRef .tc r) = U12 m c (Proc.devRef .tc r) :=
  after_of_writes_sub hostOps0_13 _ hostOps0_13_writes h
theorem U14_of (r : Ref sig .tc) (h : r ∉ hostOps0_14_W) : U14 m c (Proc.devRef .tc r) = U13 m c (Proc.devRef .tc r) :=
  after_of_writes_sub hostOps0_14 _ hostOps0_14_writes h
theorem U15_of (r : Ref sig .tc) (h : r ∉ hostOps0_15_W) : U15 m c (Proc.devRef .tc r) = U14 m c (Proc.devRef .tc r) :=
  after_of_writes_sub hostOps0_15 _ hostOps0_15_writes h

theorem U_args (r : Ref sig .tc) : U m c (Proc.devRef .tc r) = m ((c.tc : Thread nD τ).loc r) := rfl
theorem U0_args (r : Ref sig .tc) (h : r ∈ args) : U0 m c (Proc.devRef .tc r) = m ((c.tc : Thread nD τ).loc r) :=
  (U0_of m c r (hostOps0_args r h)).trans (U_args m c r)
theorem U1_args (r : Ref sig .tc) (h : r ∈ args) : U1 m c (Proc.devRef .tc r) = m ((c.tc : Thread nD τ).loc r) :=
  (U1_of m c r (hostOps0_1_args r h)).trans (U0_args m c r h)
theorem U2_args (r : Ref sig .tc) (h : r ∈ args) : U2 m c (Proc.devRef .tc r) = m ((c.tc : Thread nD τ).loc r) :=
  (U2_of m c r (hostOps0_2_args r h)).trans (U1_args m c r h)
theorem U3_args (r : Ref sig .tc) (h : r ∈ args) : U3 m c (Proc.devRef .tc r) = m ((c.tc : Thread nD τ).loc r) :=
  (U3_of m c r (hostOps0_3_args r h)).trans (U2_args m c r h)
theorem U4_args (r : Ref sig .tc) (h : r ∈ args) : U4 m c (Proc.devRef .tc r) = m ((c.tc : Thread nD τ).loc r) :=
  (U4_of m c r (hostOps0_4_args r h)).trans (U3_args m c r h)
theorem U5_args (r : Ref sig .tc) (h : r ∈ args) : U5 m c (Proc.devRef .tc r) = m ((c.tc : Thread nD τ).loc r) :=
  (U5_of m c r (hostOps0_5_args r h)).trans (U4_args m c r h)
theorem U6_args (r : Ref sig .tc) (h : r ∈ args) : U6 m c (Proc.devRef .tc r) = m ((c.tc : Thread nD τ).loc r) :=
  (U6_of m c r (hostOps0_6_args r h)).trans (U5_args m c r h)
theorem U7_args (r : Ref sig .tc) (h : r ∈ args) : U7 m c (Proc.devRef .tc r) = m ((c.tc : Thread nD τ).loc r) :=
  (U7_of m c r (hostOps0_7_args r h)).trans (U6_args m c r h)

/-- The head's data in the program's arguments. -/
def net : Net where
  image k y x := (m ((c.tc : Thread nD τ).loc main_arg1) : FVec Ideal S1x256x50x50 .f32) (ix4 0 k y x)
  filter o k i j := (m ((c.tc : Thread nD τ).loc main_arg2) : FVec Ideal S256x256x3x3 .f32) (ix4 o k i j)
  shift o := (m ((c.tc : Thread nD τ).loc main_arg3) : FVec Ideal S256 .f32) (ix1 o)
  classWeight a o := (m ((c.tc : Thread nD τ).loc main_arg4) : FVec Ideal S9x256x1x1 .f32) (ix4 a o 0 0)
  classShift a := (m ((c.tc : Thread nD τ).loc main_arg5) : FVec Ideal S9 .f32) (ix1 a)
  boxWeight n o := (m ((c.tc : Thread nD τ).loc main_arg6) : FVec Ideal S36x256x1x1 .f32) (ix4 n o 0 0)
  boxShift n := (m ((c.tc : Thread nD τ).loc main_arg7) : FVec Ideal S36 .f32) (ix1 n)
  anchor a j := Ideal.ofBits .f32 (lit0 ⟨a.1 * 4 + j.1, by omega⟩)

/-- The hidden layer. -/
abbrev hiddenArray : FVec Ideal S256x50x50 .f32 :=
  rectified (hiddens (m ((c.tc : Thread nD τ).loc main_arg2) : FVec Ideal S256x256x3x3 .f32) (m ((c.tc : Thread nD τ).loc main_arg3) : FVec Ideal S256 .f32) (bordered (m ((c.tc : Thread nD τ).loc main_arg1) : FVec Ideal S1x256x50x50 .f32)))

theorem u3_v49 : U3 m c (Proc.devRef .tc main_v49) = hiddenArray m c := by
  refine (s3_main_v49 (U2 m c)).trans (congrArg rectified ((s2_main_v48 (U1 m c)).trans ?_))
  rw [U1_args m c main_arg2 (by decide), U1_args m c main_arg3 (by decide), show U1 m c (Proc.devRef .tc main_v1) = _ from s1_main_v1 (U0 m c),
    show U0 m c (Proc.devRef .tc main_v0) = _ from s0_main_v0 (U m c), show U0 m c (Proc.devRef .tc main_c) = _ from s0_main_c (U m c)]
  rfl

theorem u5_v50 : U5 m c (Proc.devRef .tc main_v50) = unbordered (hiddenArray m c) := by
  refine (s5_main_v50 (U4 m c)).trans ?_
  rw [show U4 m c (Proc.devRef .tc main_v49) = _ from (U4_of m c main_v49 (by decide)).trans (u3_v49 m c), show U4 m c (Proc.devRef .tc main_c_0) = _ from s4_main_c_0 (U3 m c)]
  rfl

theorem u7_v56 : U7 m c (Proc.devRef .tc main_v56) = unbordered (hiddenArray m c) := by
  refine (s7_main_v56 (U6 m c)).trans ?_
  rw [show U6 m c (Proc.devRef .tc main_v49) = _ from ((U6_of m c main_v49 (by decide)).trans ((U5_of m c main_v49 (by decide)).trans (U4_of m c main_v49 (by decide)))).trans (u3_v49 m c), show U6 m c (Proc.devRef .tc main_c_1) = _ from s6_main_c_1 (U5 m c)]
  rfl

/-- The class logits. -/
theorem u8_v63 : U8 m c (Proc.devRef .tc main_v63) = classList (classes (m ((c.tc : Thread nD τ).loc main_arg4) : FVec Ideal S9x256x1x1 .f32) (m ((c.tc : Thread nD τ).loc main_arg5) : FVec Ideal S9 .f32) (unbordered (hiddenArray m c))) := by
  refine (s8_main_v63 (U7 m c)).trans (congrArg classList ?_)
  refine (U7_of m c main_v55 (by decide)).trans ((s6_main_v55 (U5 m c)).trans ?_)
  rw [U5_args m c main_arg4 (by decide), U5_args m c main_arg5 (by decide), u5_v50]

/-- The box offsets. -/
abbrev offsetArray : FVec Ideal S22500x4 .f32 :=
  offsetList (m ((c.tc : Thread nD τ).loc main_arg6) : FVec Ideal S36x256x1x1 .f32) (m ((c.tc : Thread nD τ).loc main_arg7) : FVec Ideal S36 .f32) (unbordered (hiddenArray m c))

/-- The anchors. -/
abbrev anchorArray : FVec Ideal S22500x4 .f32 := anchors (fun i => Ideal.ofBits .f32 (lit0 (S9x4.rowMajor i)))

theorem u7_cst : U7 m c (Proc.devRef .tc main_cst) = (fun i => Ideal.ofBits .f32 (lit0 (S9x4.rowMajor i)) : FVec Ideal S9x4 .f32) :=
  ((U7_of m c main_cst (by decide)).trans ((U6_of m c main_cst (by decide)).trans ((U5_of m c main_cst (by decide)).trans ((U4_of m c main_cst (by decide)).trans ((U3_of m c main_cst (by decide)).trans ((U2_of m c main_cst (by decide)).trans (U1_of m c main_cst (by decide)))))))).trans (s0_main_cst (U m c))

theorem u8_v126 : U8 m c (Proc.devRef .tc main_v126) = centres (column0 (offsetArray m c)) (column0 anchorArray) (column2 anchorArray) := by
  refine (s8_main_v126 (U7 m c)).trans ?_
  rw [U7_args m c main_arg6 (by decide), U7_args m c main_arg7 (by decide), u7_v56, u7_cst]

theorem u8_v128 : U8 m c (Proc.devRef .tc main_v128) = centres (column1 (offsetArray m c)) (column1 anchorArray) (column3 anchorArray) := by
  refine (s8_main_v128 (U7 m c)).trans ?_
  rw [U7_args m c main_arg6 (by decide), U7_args m c main_arg7 (by decide), u7_v56, u7_cst]

theorem u8_v130 : U8 m c (Proc.devRef .tc main_v130) = extents (column2 (offsetArray m c)) (column0 anchorArray) (column2 anchorArray) := by
  refine (s8_main_v130 (U7 m c)).trans ?_
  rw [U7_args m c main_arg6 (by decide), U7_args m c main_arg7 (by decide), u7_v56, u7_cst]

theorem u8_v132 : U8 m c (Proc.devRef .tc main_v132) = extents (column3 (offsetArray m c)) (column1 anchorArray) (column3 anchorArray) := by
  refine (s8_main_v132 (U7 m c)).trans ?_
  rw [U7_args m c main_arg6 (by decide), U7_args m c main_arg7 (by decide), u7_v56, u7_cst]

theorem u8_v135 : U8 m c (Proc.devRef .tc main_v135) = subf (centres (column0 (offsetArray m c)) (column0 anchorArray) (column2 anchorArray)) (halved (extents (column2 (offsetArray m c)) (column0 anchorArray) (column2 anchorArray))) := by
  refine (s8_main_v135 (U7 m c)).trans ?_
  rw [U7_args m c main_arg6 (by decide), U7_args m c main_arg7 (by decide), u7_v56, u7_cst]

theorem u15_v136 : U15 m c (Proc.devRef .tc main_v136) = cut (subf (centres (column0 (offsetArray m c)) (column0 anchorArray) (column2 anchorArray)) (halved (extents (column2 (offsetArray m c)) (column0 anchorArray) (column2 anchorArray)))) (constant (F := Ideal) S_ .f32 0x00000000#32) (constant (F := Ideal) S_ .f32 0x44480000#32) := by
  refine ((U15_of m c main_v136 (by decide)).trans ((U14_of m c main_v136 (by decide)).trans ((U13_of m c main_v136 (by decide)).trans ((U12_of m c main_v136 (by decide)).trans ((U11_of m c main_v136 (by decide)).trans (U10_of m c main_v136 (by decide))))))).trans ?_
  refine (s9_main_v136 (U8 m c)).trans ?_
  rw [show U8 m c (Proc.devRef .tc main_v135) = _ from u8_v135 m c, show U8 m c (Proc.devRef .tc main_cst_11) = _ from s8_main_cst_11 (U7 m c), show U8 m c (Proc.devRef .tc main_cst_12) = _ from s8_main_cst_12 (U7 m c)]

theorem u10_v139 : U10 m c (Proc.devRef .tc main_v139) = subf (centres (column1 (offsetArray m c)) (column1 anchorArray) (column3 anchorArray)) (halved (extents (column3 (offsetArray m c)) (column1 anchorArray) (column3 anchorArray))) := by
  refine (s10_main_v139 (U9 m c)).trans ?_
  rw [show U9 m c (Proc.devRef .tc main_v128) = _ from (U9_of m c main_v128 (by decide)).trans (u8_v128 m c), show U9 m c (Proc.devRef .tc main_v132) = _ from (U9_of m c main_v132 (by decide)).trans (u8_v132 m c)]

theorem u15_v140 : U15 m c (Proc.devRef .tc main_v140) = cut (subf (centres (column1 (offsetArray m c)) (column1 anchorArray) (column3 anchorArray)) (halved (extents (column3 (offsetArray m c)) (column1 anchorArray) (column3 anchorArray)))) (constant (F := Ideal) S_ .f32 0x00000000#32) (constant (F := Ideal) S_ .f32 0x44480000#32) := by
  refine ((U15_of m c main_v140 (by decide)).trans ((U14_of m c main_v140 (by decide)).trans ((U13_of m c main_v140 (by decide)).trans (U12_of m c main_v140 (by decide))))).trans ?_
  refine (s11_main_v140 (U10 m c)).trans ?_
  rw [show U10 m c (Proc.devRef .tc main_v139) = _ from u10_v139 m c, show U10 m c (Proc.devRef .tc main_cst_14) = _ from s10_main_cst_14 (U9 m c), show U10 m c (Proc.devRef .tc main_cst_15) = _ from s10_main_cst_15 (U9 m c)]

theorem u12_v143 : U12 m c (Proc.devRef .tc main_v143) = addf (centres (column0 (offsetArray m c)) (column0 anchorArray) (column2 anchorArray)) (halved (extents (column2 (offsetArray m c)) (column0 anchorArray) (column2 anchorArray))) := by
  refine (s12_main_v143 (U11 m c)).trans ?_
  rw [show U11 m c (Proc.devRef .tc main_v126) = _ from ((U11_of m c main_v126 (by decide)).trans ((U10_of m c main_v126 (by decide)).trans (U9_of m c main_v126 (by decide)))).trans (u8_v126 m c), show U11 m c (Proc.devRef .tc main_v130) = _ from ((U11_of m c main_v130 (by decide)).trans ((U10_of m c main_v130 (by decide)).trans (U9_of m c main_v130 (by decide)))).trans (u8_v130 m c)]

theorem u15_v144 : U15 m c (Proc.devRef .tc main_v144) = cut (addf (centres (column0 (offsetArray m c)) (column0 anchorArray) (column2 anchorArray)) (halved (extents (column2 (offsetArray m c)) (column0 anchorArray) (column2 anchorArray)))) (constant (F := Ideal) S_ .f32 0x00000000#32) (constant (F := Ideal) S_ .f32 0x44480000#32) := by
  refine ((U15_of m c main_v144 (by decide)).trans (U14_of m c main_v144 (by decide))).trans ?_
  refine (s13_main_v144 (U12 m c)).trans ?_
  rw [show U12 m c (Proc.devRef .tc main_v143) = _ from u12_v143 m c, show U12 m c (Proc.devRef .tc main_cst_17) = _ from s12_main_cst_17 (U11 m c), show U12 m c (Proc.devRef .tc main_cst_18) = _ from s12_main_cst_18 (U11 m c)]

theorem u14_v147 : U14 m c (Proc.devRef .tc main_v147) = addf (centres (column1 (offsetArray m c)) (column1 anchorArray) (column3 anchorArray)) (halved (extents (column3 (offsetArray m c)) (column1 anchorArray) (column3 anchorArray))) := by
  refine (s14_main_v147 (U13 m c)).trans ?_
  rw [show U13 m c (Proc.devRef .tc main_v128) = _ from ((U13_of m c main_v128 (by decide)).trans ((U12_of m c main_v128 (by decide)).trans ((U11_of m c main_v128 (by decide)).trans ((U10_of m c main_v128 (by decide)).trans (U9_of m c main_v128 (by decide)))))).trans (u8_v128 m c), show U13 m c (Proc.devRef .tc main_v132) = _ from ((U13_of m c main_v132 (by decide)).trans ((U12_of m c main_v132 (by decide)).trans ((U11_of m c main_v132 (by decide)).trans ((U10_of m c main_v132 (by decide)).trans (U9_of m c main_v132 (by decide)))))).trans (u8_v132 m c)]

theorem u15_v148 : U15 m c (Proc.devRef .tc main_v148) = cut (addf (centres (column1 (offsetArray m c)) (column1 anchorArray) (column3 anchorArray)) (halved (extents (column3 (offsetArray m c)) (column1 anchorArray) (column3 anchorArray)))) (constant (F := Ideal) S_ .f32 0x00000000#32) (constant (F := Ideal) S_ .f32 0x44480000#32) := by
  refine (s15_main_v148 (U14 m c)).trans ?_
  rw [show U14 m c (Proc.devRef .tc main_v147) = _ from u14_v147 m c, show U14 m c (Proc.devRef .tc main_cst_20) = _ from s14_main_cst_20 (U13 m c), show U14 m c (Proc.devRef .tc main_cst_21) = _ from s14_main_cst_21 (U13 m c)]

theorem hiddenArray_apply (o : Fin 256) (y z : Fin 50) : unbordered (hiddenArray m c) (ix3 o y z) = (net m c).hiddenAt y.1 z.1 o :=
  (unbordered_apply _ o y z).trans (hiddens_apply (net m c) _ _ _ o y z rfl rfl rfl)

theorem offset_at (p : Fin 22500) (j : Fin 4) :
    offsetArray m c (ix2 p j) = (net m c).boxLogit (p.1 / 9 / 50) (p.1 / 9 % 50) ⟨p.1 % 9, by omega⟩ j :=
  offsetList_apply (net m c) _ _ _ p j rfl rfl (hiddenArray_apply m c)

theorem table_at (a : Fin 9) (j : Fin 4) : Ideal.ofBits .f32 (lit0 (S9x4.rowMajor (ix2 a j))) = (net m c).anchor a j := by
  refine congrArg (fun k => Ideal.ofBits .f32 (lit0 k)) (Fin.ext ?_)
  show (S9x4.rowMajor (ix2 a j)).val = a.1 * 4 + j.1
  revert a j
  decide +kernel

/-- The scores. -/
theorem scoresR_apply (p : Fin 22500) : scoresR m c (ix1 p) = (net m c).score p := by
  have h := classList_apply (net m c) _ _ _ p rfl rfl (hiddenArray_apply m c)
  unfold scoresR scoresOf Net.score scoreOf
  rw [← h, show E16 m c (Proc.devRef .tc main_v63) = _ from ((U15_of m c main_v63 (by decide)).trans ((U14_of m c main_v63 (by decide)).trans ((U13_of m c main_v63 (by decide)).trans ((U12_of m c main_v63 (by decide)).trans ((U11_of m c main_v63 (by decide)).trans ((U10_of m c main_v63 (by decide)).trans (U9_of m c main_v63 (by decide)))))))).trans (u8_v63 m c)]
  generalize classList _ = X
  unfold sigmoids
  pointwise

theorem anchor0_at (p : Fin 22500) : anchorArray (ix2 p 0) = position (p.1 / 9 % 50) + (net m c).anchor ⟨p.1 % 9, by omega⟩ 0 :=
  (anchors0_apply _ p).trans (congrArg (position (p.1 / 9 % 50) + ·) (table_at m c ⟨p.1 % 9, by omega⟩ 0))

theorem anchor1_at (p : Fin 22500) : anchorArray (ix2 p 1) = position (p.1 / 9 / 50) + (net m c).anchor ⟨p.1 % 9, by omega⟩ 1 :=
  (anchors1_apply _ p).trans (congrArg (position (p.1 / 9 / 50) + ·) (table_at m c ⟨p.1 % 9, by omega⟩ 1))

theorem anchor2_at (p : Fin 22500) : anchorArray (ix2 p 2) = position (p.1 / 9 % 50) + (net m c).anchor ⟨p.1 % 9, by omega⟩ 2 :=
  (anchors2_apply _ p).trans (congrArg (position (p.1 / 9 % 50) + ·) (table_at m c ⟨p.1 % 9, by omega⟩ 2))

theorem anchor3_at (p : Fin 22500) : anchorArray (ix2 p 3) = position (p.1 / 9 / 50) + (net m c).anchor ⟨p.1 % 9, by omega⟩ 3 :=
  (anchors3_apply _ p).trans (congrArg (position (p.1 / 9 / 50) + ·) (table_at m c ⟨p.1 % 9, by omega⟩ 3))

theorem left_entry (p : Fin 22500) : (E16 m c (Proc.devRef .tc main_v136) : FVec Ideal S22500 .f32) (ix1 p) = (net m c).left p := by
  rw [show E16 m c (Proc.devRef .tc main_v136) = _ from u15_v136 m c, low_apply]
  unfold Net.left low centre halfExtent
  rw [column0_apply, column2_apply, column0_apply, column2_apply, offset_at, offset_at, anchor0_at m c, anchor2_at m c]

theorem top_entry (p : Fin 22500) : (E16 m c (Proc.devRef .tc main_v140) : FVec Ideal S22500 .f32) (ix1 p) = (net m c).top p := by
  rw [show E16 m c (Proc.devRef .tc main_v140) = _ from u15_v140 m c, low_apply]
  unfold Net.top low centre halfExtent
  rw [column1_apply, column3_apply, column1_apply, column3_apply, offset_at, offset_at, anchor1_at m c, anchor3_at m c]

theorem right_entry (p : Fin 22500) : (E16 m c (Proc.devRef .tc main_v144) : FVec Ideal S22500 .f32) (ix1 p) = (net m c).right p := by
  rw [show E16 m c (Proc.devRef .tc main_v144) = _ from u15_v144 m c, high_apply]
  unfold Net.right high centre halfExtent
  rw [column0_apply, column2_apply, column0_apply, column2_apply, offset_at, offset_at, anchor0_at m c, anchor2_at m c]

theorem bottom_entry (p : Fin 22500) : (E16 m c (Proc.devRef .tc main_v148) : FVec Ideal S22500 .f32) (ix1 p) = (net m c).bottom p := by
  rw [show E16 m c (Proc.devRef .tc main_v148) = _ from u15_v148 m c, high_apply]
  unfold Net.bottom high centre halfExtent
  rw [column1_apply, column3_apply, column1_apply, column3_apply, offset_at, offset_at, anchor1_at m c, anchor3_at m c]

end Cert.ReferenceIdeal.Value

end
-- ==== Proof.KernelNmsValue.lean ====
module

public import proofs.«01_k».proof.Proof.KernelNms
public import proofs.«01_k».proof.Proof.NmsSpec
public import Idealize.ShloMosaic.Lib.Pointwise

@[expose] public section

set_option maxRecDepth 16384

noncomputable section

namespace Cert.KernelIdeal.Gen

open Cert.Nms Idealize.ShloMosaic Idealize.ShloMosaic.TcCoe Idealize.ShloMosaic.Tactic

/-- The suppression loop makes 6000 trips. -/
theorem trips_eq : k1_t1_loop.trips = 6000 := by decide +kernel

/-- Trip `k` of 6000, as the loop numbers its trips. -/
abbrev trip (k : Fin 6000) : Fin k1_t1_loop.trips := Fin.cast trips_eq.symm k

/-- The row that trip `k` loads is row `k / 128`, from its first lane on. -/
theorem off_row : ∀ k : Fin 6000, k1_off1 (trip k) 0 = k.val / 128 ∧ k1_off1 (trip k) 1 = 0 := by
  decide +kernel

/-- The lane word of trip `k` is `k % 128`. -/
theorem lane_word : ∀ k : Fin 6000, ∀ l : Fin 128,
    IntOp.cmpi .eq (BitVec.ofNat 32 l.val) (BitVec.ofNat 32 (k.val % 128)) = if l.val = k.val % 128 then 1#1 else 0#1 := by
  intro k l
  have hk : k.val % 128 < 128 := Nat.mod_lt _ (by norm_num)
  have hl := l.isLt
  generalize k.val % 128 = a at hk
  by_cases h : l.val = a
  · subst h; simp [IntOp.cmpi]
  · rw [if_neg h]
    have : BitVec.ofNat 32 l.val ≠ BitVec.ofNat 32 a := fun e => h (by
      have := congrArg BitVec.toNat e
      simp only [BitVec.toNat_ofNat] at this
      omega)
    have e : (BitVec.ofNat 32 l.val == BitVec.ofNat 32 a) = false := by simpa using this
    simp [IntOp.cmpi, e]

/-- The mask of trip `k` compares the lane number with the word of `k % 128`. -/
theorem mask_word (k : Fin 6000) (l : Fin 128) :
    k1_pay1 (iota .tc S1x128 32 [1] iota_S1x128_d1_w32) 0#32 1#32 (trip k) (ix2 0 l)
      = IntOp.cmpi .eq (BitVec.ofNat 32 l.val) (BitVec.ofNat 32 (k.val % 128)) := by
  unfold k1_pay1
  pointwise
  refine congrArg (IntOp.cmpi .eq (BitVec.ofNat 32 l.val)) ?_
  revert k
  decide +kernel

/-- The mask of trip `k` holds at the one lane `k % 128`. -/
theorem mask_apply (k : Fin 6000) (l : Fin 128) :
    k1_pay1 (iota .tc S1x128 32 [1] iota_S1x128_d1_w32) 0#32 1#32 (trip k) (ix2 0 l)
      = if l.val = k.val % 128 then 1#1 else 0#1 := by
  rw [mask_word, lane_word]

/-- The place of box `k` in a `47 × 128` array. -/
def slot (k : Fin 6000) : S47x128.Idx :=
  ix2 (⟨k.val / 128, by have := k.isLt; omega⟩ : Fin 47) (⟨k.val % 128, by omega⟩ : Fin 128)

/-- The row that trip `k` loads, lane by lane. -/
theorem rowAt_apply (x : Vec Ideal S47x128 .f32) (k : Fin 6000) (l : Fin 128) :
    rowAt x (trip k) (ix2 0 l) = x (ix2 (⟨k.val / 128, by have := k.isLt; omega⟩ : Fin 47) l) := by
  show x _ = x _
  congr 1
  funext a
  apply Fin.ext
  have h0 := (off_row k).1
  have h1 := (off_row k).2
  fin_cases a
  · show k1_off1 (trip k) 0 + 0 * 1 = k.val / 128
    omega
  · show k1_off1 (trip k) 1 + 1 * l.val = l.val
    omega

/-- The largest of a row masked down to one lane (zero elsewhere) is that lane's entry, where it is not negative. -/
theorem pivot (x : Vec Ideal S47x128 .f32) (k : Fin 6000) (hx : (0 : EReal) ≤ x (slot k)) :
    Finset.univ.fold max (Ideal.ofBits .f32 4286578688#32)
      (fun l : Fin 128 => Scalar.select (k1_pay1 (iota .tc S1x128 32 [1] iota_S1x128_d1_w32) 0#32 1#32 (trip k) (ix2 0 l))
        (rowAt x (trip k) (ix2 0 l)) (0 : EReal)) = x (slot k) := by
  have hb : Ideal.ofBits .f32 4286578688#32 = (⊥ : EReal) := by simp [Ideal.ofBits, Ideal.ieee]
  rw [hb]
  have hv : ∀ l : Fin 128, Scalar.select (k1_pay1 (iota .tc S1x128 32 [1] iota_S1x128_d1_w32) 0#32 1#32 (trip k) (ix2 0 l))
      (rowAt x (trip k) (ix2 0 l)) (0 : EReal) = if l.val = k.val % 128 then x (slot k) else 0 := by
    intro l
    rw [mask_apply, rowAt_apply]
    by_cases h : l.val = k.val % 128
    · rw [if_pos h, if_pos h]
      have : l = (⟨k.val % 128, by omega⟩ : Fin 128) := Fin.ext h
      rw [this]
      rfl
    · rw [if_neg h, if_neg h]; rfl
  simp only [hv]
  apply le_antisymm
  · rw [Finset.fold_max_le]
    refine ⟨bot_le, fun l _ => ?_⟩
    split
    · exact le_rfl
    · exact hx
  · rw [Finset.le_fold_max]
    refine Or.inr ⟨⟨k.val % 128, by omega⟩, Finset.mem_univ _, ?_⟩
    rw [if_pos rfl]

/-- What one trip leaves at box `j`, in scalars. -/
theorem nmsTrip_apply (x0 x1 x2 x3 s : Vec Ideal S47x128 .f32) (k j : Fin 6000)
    (h0 : (0 : EReal) ≤ x0 (slot k)) (h1 : (0 : EReal) ≤ x1 (slot k)) (h2 : (0 : EReal) ≤ x2 (slot k))
    (h3 : (0 : EReal) ≤ x3 (slot k)) (hs : (0 : EReal) ≤ s (slot k)) :
    nmsTrip x0 x1 x2 x3 (trip k) s (slot j)
      = max (s (slot j)) (if overlaps (x0 (slot k)) (x1 (slot k)) (x2 (slot k)) (x3 (slot k))
          (x0 (slot j)) (x1 (slot j)) (x2 (slot j)) (x3 (slot j)) ∧ k.val < j.val then 1 - s (slot k) else 0) := by
  have hc : IntOp.cmpi .sgt (IntOp.addi (IntOp.muli (BitVec.ofNat 32 (j.val / 128)) 128#32) (BitVec.ofNat 32 (j.val % 128)))
      (Scf.iv 0#32 1#32 k.val) = BitVec.ofBool (decide (k.val < j.val)) := by
    have hj := j.isLt
    have hk := k.isLt
    have e1 : IntOp.addi (IntOp.muli (BitVec.ofNat 32 (j.val / 128)) 128#32) (BitVec.ofNat 32 (j.val % 128)) = BitVec.ofNat 32 j.val := by
      apply BitVec.eq_of_toNat_eq
      simp only [IntOp.addi, IntOp.muli, BitVec.toNat_add, BitVec.toNat_mul, BitVec.toNat_ofNat]
      omega
    have e2 : Scf.iv 0#32 1#32 k.val = BitVec.ofNat 32 k.val := by
      apply BitVec.eq_of_toNat_eq
      simp [Scf.iv]
    rw [e1, e2]
    have t1 : (BitVec.ofNat 32 j.val).toInt = j.val := by
      rw [BitVec.toInt_eq_toNat_of_lt] <;> simp only [BitVec.toNat_ofNat] <;> omega
    have t2 : (BitVec.ofNat 32 k.val).toInt = k.val := by
      rw [BitVec.toInt_eq_toNat_of_lt] <;> simp only [BitVec.toNat_ofNat] <;> omega
    show BitVec.ofBool (BitVec.slt (BitVec.ofNat 32 k.val) (BitVec.ofNat 32 j.val)) = _
    rw [BitVec.slt, t1, t2]
    simp
  have key : nmsTrip x0 x1 x2 x3 (trip k) s (slot j) = max (s (slot j)) (Scalar.select (IntOp.andi
      (BitVec.ofBool (decide (overlaps (x0 (slot k)) (x1 (slot k)) (x2 (slot k)) (x3 (slot k))
          (x0 (slot j)) (x1 (slot j)) (x2 (slot j)) (x3 (slot j)))))
      (BitVec.ofBool (decide (k.val < j.val)))) (1 - s (slot k)) 0) := by
    rw [← hc]
    unfold overlaps inter
    rw [← pivot x0 k h0, ← pivot x1 k h1, ← pivot x2 k h2, ← pivot x3 k h3, ← pivot s k hs]
    unfold nmsTrip slot
    pointwise [k1_pay16, k1_pay7, k1_pay8, k1_pay9, k1_pay2, k1_pay3, k1_pay4, k1_pay5, k1_pay6, k1_pay10,  k1_pay11, k1_pay12, k1_pay13, k1_pay14]
  rw [key]
  by_cases ho : overlaps (x0 (slot k)) (x1 (slot k)) (x2 (slot k)) (x3 (slot k))
          (x0 (slot j)) (x1 (slot j)) (x2 (slot j)) (x3 (slot j)) <;> by_cases hlt : k.val < j.val <;>
    simp [ho, hlt, IntOp.andi, Scalar.select]

/-- The flags start at zero. -/
theorem pay15_apply (i : S47x128.Idx) : k1_pay15 (F := Ideal) i = (0 : EReal) := by
  unfold k1_pay15
  rw [ValueIdx.eq_ix2 i]
  pointwise

/-- After `n` trips the flag of box `j` is one if the box is suppressed and zero if it is not. -/
theorem nmsState_apply (x0 x1 x2 x3 : Vec Ideal S47x128 .f32)
    (h0 : ∀ k, (0 : EReal) ≤ x0 (slot k)) (h1 : ∀ k, (0 : EReal) ≤ x1 (slot k))
    (h2 : ∀ k, (0 : EReal) ≤ x2 (slot k)) (h3 : ∀ k, (0 : EReal) ≤ x3 (slot k)) (n : ℕ) (hn : n ≤ 6000) (j : Fin 6000) :
    nmsState x0 x1 x2 x3 n (slot j)
      = if suppressed (fun k => x0 (slot k)) (fun k => x1 (slot k)) (fun k => x2 (slot k)) (fun k => x3 (slot k)) n j
        then (1 : EReal) else 0 := by
  induction n generalizing j with
  | zero => simp [nmsState, suppressed, pay15_apply]
  | succ n ih =>
    have hlt : n < k1_t1_loop.trips := by rw [trips_eq]; omega
    have hlt' : n < 6000 := by omega
    have e : nmsState x0 x1 x2 x3 (n + 1) (slot j) = nmsTrip x0 x1 x2 x3 (trip ⟨n, hlt'⟩) (nmsState x0 x1 x2 x3 n) (slot j) := by
      rw [nmsState]
      split
      · rfl
      · contradiction
    have hs : (0 : EReal) ≤ nmsState x0 x1 x2 x3 n (slot ⟨n, hlt'⟩) := by
      rw [ih (by omega)]
      split
      · exact zero_le_one
      · exact le_rfl
    rw [e, nmsTrip_apply x0 x1 x2 x3 _ ⟨n, hlt'⟩ j (h0 _) (h1 _) (h2 _) (h3 _) hs, ih (by omega), ih (by omega)]
    simp only [suppressed_succ _ _ _ _ n hlt' j]
    have z1 : (1 : EReal) - 1 = 0 := by
      have : ((1 : ℝ) : EReal) - ((1 : ℝ) : EReal) = ((1 - 1 : ℝ) : EReal) := (EReal.coe_sub 1 1).symm
      simpa using this
    by_cases p : suppressed (fun k => x0 (slot k)) (fun k => x1 (slot k)) (fun k => x2 (slot k)) (fun k => x3 (slot k)) n j <;>
      by_cases q : suppressed (fun k => x0 (slot k)) (fun k => x1 (slot k)) (fun k => x2 (slot k)) (fun k => x3 (slot k)) n ⟨n, hlt'⟩ <;>
      by_cases o : overlaps (x0 (slot ⟨n, hlt'⟩)) (x1 (slot ⟨n, hlt'⟩)) (x2 (slot ⟨n, hlt'⟩)) (x3 (slot ⟨n, hlt'⟩))
          (x0 (slot j)) (x1 (slot j)) (x2 (slot j)) (x3 (slot j)) <;> by_cases l : n < j.val <;>
      simp [p, q, o, l, z1]

/-- What the suppression kernel leaves at box `j`: the score, or the low mark if the box is suppressed. -/
theorem masked_apply (x0 x1 x2 x3 x4 : Vec Ideal S47x128 .f32)
    (h0 : ∀ k, (0 : EReal) ≤ x0 (slot k)) (h1 : ∀ k, (0 : EReal) ≤ x1 (slot k))
    (h2 : ∀ k, (0 : EReal) ≤ x2 (slot k)) (h3 : ∀ k, (0 : EReal) ≤ x3 (slot k)) (j : Fin 6000) :
    k1_pay17 (nmsState x0 x1 x2 x3 k1_t1_loop.trips) x4 (slot j)
      = if suppressed (fun k => x0 (slot k)) (fun k => x1 (slot k)) (fun k => x2 (slot k)) (fun k => x3 (slot k)) 6000 j
        then Ideal.ofBits .f32 0xCE6E6B28#32 else x4 (slot j) := by
  rw [trips_eq]
  have e := nmsState_apply x0 x1 x2 x3 h0 h1 h2 h3 6000 le_rfl j
  generalize nmsState x0 x1 x2 x3 6000 = f at e
  have key : k1_pay17 f x4 (slot j) = Scalar.select (BitVec.ofBool (decide ((0 : EReal) < f (slot j)))) (Ideal.ofBits .f32 0xCE6E6B28#32) (x4 (slot j)) := by
    unfold slot
    pointwise [k1_pay17]
  rw [key, e]
  split <;> simp [Scalar.select]

end Cert.KernelIdeal.Gen
end
-- ==== Proof.TailEquation.lean ====
module

public import proofs.«01_k».proof.Proof.KernelTail
public import proofs.«01_k».proof.Proof.KernelNmsValue
public import proofs.«01_k».proof.Proof.ReferenceTail

@[expose] public section

set_option maxRecDepth 16384

noncomputable section

namespace Cert.KernelIdeal.Gen

open Cert.Nms Idealize.ShloMosaic Idealize.ShloMosaic.TcCoe Idealize.ShloMosaic.Tactic

/-- A list laid out on the grid holds its entry `k` at place `k`. -/
theorem onGrid_slot (v : FVec Ideal S_ .f32) (x : FVec Ideal S6000 .f32) (k : Fin 6000) : onGrid v x (slot k) = x (ix1 k) := by
  unfold onGrid slot
  pointwise
  have h : (k : ℕ) / 128 * 128 + k % 128 = k := by omega
  rw [dif_pos (by omega)]
  exact congrArg x (congrArg ix1 (Fin.ext h))

/-- Place `k` of the grid is entry `k` of the list read back. -/
theorem offGrid_apply (x : FVec Ideal S47x128 .f32) (k : Fin 6000) : offGrid x (ix1 k) = x (slot k) := by
  unfold offGrid slot
  pointwise

/-- The chosen boxes hold entries of the boxes they are chosen from. -/
theorem bestBoxes_nonneg (s : FVec Ideal S22500 .f32) (p : FVec Ideal S22500x4 .f32) (hp : ∀ i, (0 : EReal) ≤ p i) (i) :
    (0 : EReal) ≤ bestBoxes s p i := by
  unfold bestBoxes Host.gather
  exact hp _

theorem edge0_nonneg (b : FVec Ideal S6000x4 .f32) (hb : ∀ i, (0 : EReal) ≤ b i) (i) : (0 : EReal) ≤ edge0 b i := hb _
theorem edge1_nonneg (b : FVec Ideal S6000x4 .f32) (hb : ∀ i, (0 : EReal) ≤ b i) (i) : (0 : EReal) ≤ edge1 b i := hb _
theorem edge2_nonneg (b : FVec Ideal S6000x4 .f32) (hb : ∀ i, (0 : EReal) ≤ b i) (i) : (0 : EReal) ≤ edge2 b i := hb _
theorem edge3_nonneg (b : FVec Ideal S6000x4 .f32) (hb : ∀ i, (0 : EReal) ≤ b i) (i) : (0 : EReal) ≤ edge3 b i := hb _

/-- The masked scores: the fill exactly at the suppressed boxes. -/
theorem maskedOf_apply (s : FVec Ideal S22500 .f32) (p : FVec Ideal S22500x4 .f32) (hp : ∀ i, (0 : EReal) ≤ p i) (j : Fin 6000) :
    maskedOf s p (ix1 j) = if suppressed (fun k => edge0 (bestBoxes s p) (ix1 k)) (fun k => edge1 (bestBoxes s p) (ix1 k))
        (fun k => edge2 (bestBoxes s p) (ix1 k)) (fun k => edge3 (bestBoxes s p) (ix1 k)) 6000 j
      then Ideal.ofBits .f32 0xCE6E6B28#32 else bestScores s (ix1 j) := by
  have hb := bestBoxes_nonneg s p hp
  unfold maskedOf
  rw [offGrid_apply, masked_apply]
  · simp only [onGrid_slot]
  all_goals intro k; rw [onGrid_slot]
  · exact edge0_nonneg _ hb _
  · exact edge1_nonneg _ hb _
  · exact edge2_nonneg _ hb _
  · exact edge3_nonneg _ hb _

end Cert.KernelIdeal.Gen

namespace Cert.Equation

open Idealize.ShloMosaic Idealize.ShloMosaic.TcCoe

variable (m : (ℓ : Loc KernelIdeal.nD KernelIdeal.τ KernelIdeal.sig) → Buf (Elt Ideal) ℓ) (ρ : Dev KernelIdeal.nD → PrngReg)
  (m' : (ℓ : Loc ReferenceIdeal.nD ReferenceIdeal.τ ReferenceIdeal.sig) → Buf (Elt Ideal) ℓ) (c : Dev KernelIdeal.nD)

theorem result_eq (hs : KernelIdeal.Gen.scoresK m ρ c = ReferenceIdeal.Value.scoresR m' c)
    (hb : KernelIdeal.Gen.boxesK m ρ c = ReferenceIdeal.Value.boxesR m' c)
    (hp : ∀ i, (0 : EReal) ≤ KernelIdeal.Gen.boxesK m ρ c i) :
    (KernelIdeal.Gen.W27 m ρ c (Proc.devRef .tc KernelIdeal.main_v149) : FVec Ideal KernelIdeal.S2000x5 .f32)
      = StableHlo.finalContents ReferenceIdeal.Value.condOps ReferenceIdeal.Value.preI ReferenceIdeal.Value.bodyI ReferenceIdeal.Value.postI 6000 m' c (Proc.devRef .tc ReferenceIdeal.main_v195) := by
  obtain ⟨M, e, hM⟩ := ReferenceIdeal.Value.result_at m' c
  have hm : KernelIdeal.Gen.maskedOf (KernelIdeal.Gen.scoresK m ρ c) (KernelIdeal.Gen.boxesK m ρ c) = M := by
    funext i
    obtain ⟨j, rfl⟩ : ∃ j : Fin 6000, i = ReferenceIdeal.Value.box j := ⟨i 0, ValueIdx.eq_ix1 i⟩
    rw [hM j, ← hs, ← hb]
    exact KernelIdeal.Gen.maskedOf_apply _ _ hp j
  rw [KernelIdeal.Gen.result_at, hm, e, ← hs, ← hb]
  rfl

end Cert.Equation
end
-- ==== Proof.HeadEquation.lean ====
module

public import proofs.«01_k».proof.Proof.KernelAnchors
public import proofs.«01_k».proof.Proof.ReferenceAnchors
public import proofs.«01_k».proof.Proof.TailEquation

@[expose] public section

set_option maxRecDepth 16384

noncomputable section

/-! The kernel's result is the reference's: the heads agree anchor by anchor, and the rest depends on nothing else. -/

namespace Cert.KernelIdeal.Gen

open Cert.Head Idealize.ShloMosaic Idealize.ShloMosaic.TcCoe Idealize.ShloMosaic.Tactic

/-- Boxes with no negative edge list are boxes without negative entries. -/
theorem boxes4_nonneg (a b c d : FVec Ideal S22500 .f32) (ha : ∀ p, (0 : EReal) ≤ a (ix1 p)) (hb : ∀ p, (0 : EReal) ≤ b (ix1 p))
    (hc : ∀ p, (0 : EReal) ≤ c (ix1 p)) (hd : ∀ p, (0 : EReal) ≤ d (ix1 p)) (i : S22500x4.Idx) : (0 : EReal) ≤ boxes4 a b c d i := by
  rw [ValueIdx.eq_ix2 i]
  generalize i 0 = p, i 1 = j
  unfold boxes4
  pointwise
  split_ifs
  · exact ha p
  · exact hb p
  · exact hc p
  · exact hd p

/-- No coordinate of a box is negative. -/
theorem boxesK_nonneg (m : (ℓ : Loc nD τ sig) → Buf (Elt Ideal) ℓ) (ρ : Dev nD → PrngReg) (c : Dev nD) (i : S22500x4.Idx) :
    (0 : EReal) ≤ boxesK m ρ c i :=
  boxes4_nonneg _ _ _ _ (fun p => (left_entry m ρ c p).symm ▸ clip_nonneg _) (fun p => (top_entry m ρ c p).symm ▸ clip_nonneg _)
    (fun p => (right_entry m ρ c p).symm ▸ clip_nonneg _) (fun p => (bottom_entry m ρ c p).symm ▸ clip_nonneg _) i

end Cert.KernelIdeal.Gen

namespace Cert.Equation

open Cert.Head Idealize.ShloMosaic Idealize.ShloMosaic.TcCoe

variable (m : (ℓ : Loc KernelIdeal.nD KernelIdeal.τ KernelIdeal.sig) → Buf (Elt Ideal) ℓ) (ρ : Dev KernelIdeal.nD → PrngReg)
  (m' : (ℓ : Loc ReferenceIdeal.nD ReferenceIdeal.τ ReferenceIdeal.sig) → Buf (Elt Ideal) ℓ) (c : Dev KernelIdeal.nD)

/-- The two programs write the anchors at the origin with the same words, in different layouts. -/
theorem table_eq : ∀ (a : Fin 9) (j : Fin 4),
    KernelIdeal.lit0 ⟨j.1 * 16 + a.1, by omega⟩ = ReferenceIdeal.lit0 ⟨a.1 * 4 + j.1, by omega⟩ := by
  decide +kernel

/-- Both heads work from the same data. -/
theorem net_eq
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3))
    (h4 : m' ((c.tc : Thread ReferenceIdeal.nD ReferenceIdeal.τ).loc ReferenceIdeal.main_arg4) = m ((c.tc : Thread KernelIdeal.nD KernelIdeal.τ).loc KernelIdeal.main_arg4))
    (h5 : m' ((c.tc : Thread ReferenceIdeal.nD ReferenceIdeal.τ).loc ReferenceIdeal.main_arg5) = m ((c.tc : Thread KernelIdeal.nD KernelIdeal.τ).loc KernelIdeal.main_arg5))
    (h6 : m' ((c.tc : Thread ReferenceIdeal.nD ReferenceIdeal.τ).loc ReferenceIdeal.main_arg6) = m ((c.tc : Thread KernelIdeal.nD KernelIdeal.τ).loc KernelIdeal.main_arg6))
    (h7 : m' ((c.tc : Thread ReferenceIdeal.nD ReferenceIdeal.τ).loc ReferenceIdeal.main_arg7) = m ((c.tc : Thread KernelIdeal.nD KernelIdeal.τ).loc KernelIdeal.main_arg7)) :
    KernelIdeal.Gen.net m c = ReferenceIdeal.Value.net m' c := by
  unfold KernelIdeal.Gen.net ReferenceIdeal.Value.net
  rw [h1, h2, h3, h4, h5, h6, h7]
  congr 1
  funext a j
  exact congrArg (Ideal.ofBits .f32) (table_eq a j)

/-- Two lists with equal entries are equal. -/
theorem list_ext {x y : FVec Ideal KernelIdeal.S22500 .f32} (h : ∀ p : Fin 22500, x (ix1 p) = y (ix1 p)) : x = y := by
  funext i
  rw [ValueIdx.eq_ix1 i]
  exact h (i 0)

/-- The scores agree. -/
theorem scores_eq (h : KernelIdeal.Gen.net m c = ReferenceIdeal.Value.net m' c) :
    KernelIdeal.Gen.scoresK m ρ c = ReferenceIdeal.Value.scoresR m' c :=
  list_ext fun p => (KernelIdeal.Gen.scoresK_apply m ρ c p).trans (h ▸ (ReferenceIdeal.Value.scoresR_apply m' c p).symm)

/-- The boxes agree. -/
theorem boxes_eq (h : KernelIdeal.Gen.net m c = ReferenceIdeal.Value.net m' c) :
    KernelIdeal.Gen.boxesK m ρ c = ReferenceIdeal.Value.boxesR m' c := by
  unfold KernelIdeal.Gen.boxesK ReferenceIdeal.Value.boxesR ReferenceIdeal.Value.boxesOf
  rw [list_ext fun p => (KernelIdeal.Gen.left_entry m ρ c p).trans (h ▸ (ReferenceIdeal.Value.left_entry m' c p).symm),
    list_ext fun p => (KernelIdeal.Gen.top_entry m ρ c p).trans (h ▸ (ReferenceIdeal.Value.top_entry m' c p).symm),
    list_ext fun p => (KernelIdeal.Gen.right_entry m ρ c p).trans (h ▸ (ReferenceIdeal.Value.right_entry m' c p).symm),
    list_ext fun p => (KernelIdeal.Gen.bottom_entry m ρ c p).trans (h ▸ (ReferenceIdeal.Value.bottom_entry m' c p).symm)]
  rfl

end Cert.Equation

end
-- ==== Proof.lean ====
/-
  The claims, assembled.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.ReferenceRun
public import proofs.«01_k».proof.Proof.HeadEquation
public import Idealize.ShloMosaic.Adequacy
public import Idealize.ShloMosaic.Init

@[expose] public section

noncomputable section

namespace Cert.Proof

open Idealize.ShloMosaic Idealize.SL.Sem Cert.Kernel

/-- From equal arguments the kernel and the reference end with equal results. -/
theorem value : @Cert.algebraic_KernelIdeal_ReferenceIdeal Cert.KernelIdeal.Gen.facts Cert.ReferenceIdeal.Gen.facts := by
  intro m g m' g' _ h
  refine ⟨fun c => Cert.KernelIdeal.Gen.W27 m g c (Proc.devRef .tc Cert.KernelIdeal.main_v149), Cert.KernelIdeal.Gen.valueRun m g, ?_⟩
  refine (θ_run _ _ _).mono (fun r hr c => ⟨(hr c).1.trans ?_, (hr c).2⟩) (Cert.ReferenceIdeal.Value.valueRun m' g')
  obtain ⟨_, h1, h2, h3, h4, h5, h6, h7⟩ := h c
  have e := Cert.Equation.net_eq m m' c h1 h2 h3 h4 h5 h6 h7
  exact (Cert.Equation.result_eq m g m' c (Cert.Equation.scores_eq m g m' c e) (Cert.Equation.boxes_eq m g m' c e)
    (Cert.KernelIdeal.Gen.boxesK_nonneg m g c)).symm

/-- All claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, Cert.ReferenceIdeal.Value.frame,
  trivial, value⟩

end Cert.Proof

end
